-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_angles_in_range [hPre_angles_in_range : Cert.Pre_angles_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_angles_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_cosines_finite [hPre_cosines_finite : Cert.Pre_cosines_finite.Facts] (m : (ℓ : Loc Cert.TailIdeal.nD Cert.TailIdeal.τ Cert.TailIdeal.sig) → Buf (Elt Ideal) ℓ) : Prop :=
  ∀ c : Dev Cert.TailIdeal.nD,
    (Cert.Pre_cosines_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_cosines_finite [hPre_cosines_finite : Cert.Pre_cosines_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_cosines_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2))) = (fun _ => 1#1)

def Pre_Cosines (m : (ℓ : Loc Cert.Cosines.nD Cert.Cosines.τ Cert.Cosines.sig) → Buf (Elt Bits) ℓ) : Prop :=
  True

def Pre_CosinesIdeal (m : (ℓ : Loc Cert.CosinesIdeal.nD Cert.CosinesIdeal.τ Cert.CosinesIdeal.sig) → Buf (Elt Ideal) ℓ) : Prop :=
  True

def Pre_CosinesIdeal_angles_moderate [hPre_angles_moderate : Cert.Pre_angles_moderate.Facts] (m : (ℓ : Loc Cert.CosinesIdeal.nD Cert.CosinesIdeal.τ Cert.CosinesIdeal.sig) → Buf (Elt Ideal) ℓ) : Prop :=
  ∀ c : Dev Cert.CosinesIdeal.nD,
    (Cert.Pre_angles_moderate.fn (F := Ideal) (m ((c.tc : Thread Cert.CosinesIdeal.nD Cert.CosinesIdeal.τ).loc Cert.CosinesIdeal.main_arg0)) (m ((c.tc : Thread Cert.CosinesIdeal.nD Cert.CosinesIdeal.τ).loc Cert.CosinesIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_angles_in_range [hKernelIdeal : Cert.KernelIdeal.Facts] [hPre_angles_in_range : Cert.Pre_angles_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_angles_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailIdeal_pre_cosines_finite [hTailIdeal : Cert.TailIdeal.Facts] [hPre_cosines_finite : Cert.Pre_cosines_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_cosines_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_TailReferenceIdeal_pre_cosines_finite [hTailReferenceIdeal : Cert.TailReferenceIdeal.Facts] [hPre_cosines_finite : Cert.Pre_cosines_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_cosines_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2))
      ∧ r.2.sem = fun _ => 0)

def quiescent_Cosines [hCosines : Cert.Cosines.Facts] : Prop :=
  ∀ (m : (ℓ : Loc Cert.Cosines.nD Cert.Cosines.τ Cert.Cosines.sig) → Buf (Elt Bits) ℓ) (g : Dev Cert.Cosines.nD → PrngReg), Pre_Cosines m →
    θ_run (Cert.Cosines.defs (F := Bits)) (onTc (τ := Cert.Cosines.τ) (Cert.Cosines.main (F := Bits))) ⟨m, fun _ => 0, g⟩ (fun r => (∀ c : Dev Cert.Cosines.nD,
      r.2.mem ((c.tc : Thread Cert.Cosines.nD Cert.Cosines.τ).loc Cert.Cosines.main_arg0) = m ((c.tc : Thread Cert.Cosines.nD Cert.Cosines.τ).loc Cert.Cosines.main_arg0)
      ∧ r.2.mem ((c.tc : Thread Cert.Cosines.nD Cert.Cosines.τ).loc Cert.Cosines.main_arg1) = m ((c.tc : Thread Cert.Cosines.nD Cert.Cosines.τ).loc Cert.Cosines.main_arg1))
      ∧ r.2.sem = fun _ => 0)

def quiescent_CosinesIdeal [hCosinesIdeal : Cert.CosinesIdeal.Facts] : Prop :=
  ∀ (m : (ℓ : Loc Cert.CosinesIdeal.nD Cert.CosinesIdeal.τ Cert.CosinesIdeal.sig) → Buf (Elt Ideal) ℓ) (g : Dev Cert.CosinesIdeal.nD → PrngReg), Pre_CosinesIdeal m →
    θ_run (Cert.CosinesIdeal.defs (F := Ideal)) (onTc (τ := Cert.CosinesIdeal.τ) (Cert.CosinesIdeal.main (F := Ideal))) ⟨m, fun _ => 0, g⟩ (fun r => (∀ c : Dev Cert.CosinesIdeal.nD,
      r.2.mem ((c.tc : Thread Cert.CosinesIdeal.nD Cert.CosinesIdeal.τ).loc Cert.CosinesIdeal.main_arg0) = m ((c.tc : Thread Cert.CosinesIdeal.nD Cert.CosinesIdeal.τ).loc Cert.CosinesIdeal.main_arg0)
      ∧ r.2.mem ((c.tc : Thread Cert.CosinesIdeal.nD Cert.CosinesIdeal.τ).loc Cert.CosinesIdeal.main_arg1) = m ((c.tc : Thread Cert.CosinesIdeal.nD Cert.CosinesIdeal.τ).loc Cert.CosinesIdeal.main_arg1))
      ∧ r.2.sem = fun _ => 0)

def quiescent_CosinesIdeal_pre_angles_moderate [hCosinesIdeal : Cert.CosinesIdeal.Facts] [hPre_angles_moderate : Cert.Pre_angles_moderate.Facts] : Prop :=
  ∀ (m : (ℓ : Loc Cert.CosinesIdeal.nD Cert.CosinesIdeal.τ Cert.CosinesIdeal.sig) → Buf (Elt Ideal) ℓ) (g : Dev Cert.CosinesIdeal.nD → PrngReg), Pre_CosinesIdeal_angles_moderate m →
    θ_run (Cert.CosinesIdeal.defs (F := Ideal)) (onTc (τ := Cert.CosinesIdeal.τ) (Cert.CosinesIdeal.main (F := Ideal))) ⟨m, fun _ => 0, g⟩ (fun r => (∀ c : Dev Cert.CosinesIdeal.nD,
      r.2.mem ((c.tc : Thread Cert.CosinesIdeal.nD Cert.CosinesIdeal.τ).loc Cert.CosinesIdeal.main_arg0) = m ((c.tc : Thread Cert.CosinesIdeal.nD Cert.CosinesIdeal.τ).loc Cert.CosinesIdeal.main_arg0)
      ∧ r.2.mem ((c.tc : Thread Cert.CosinesIdeal.nD Cert.CosinesIdeal.τ).loc Cert.CosinesIdeal.main_arg1) = m ((c.tc : Thread Cert.CosinesIdeal.nD Cert.CosinesIdeal.τ).loc Cert.CosinesIdeal.main_arg1))
      ∧ r.2.sem = fun _ => 0)

def preserves_Kernel_KernelIdeal : Prop :=
  IdealRules.named_const.Statement Cert.KernelIdeal.κ "scale_log2e" .bf16 0x3E39#16 ((8⁻¹ * (Real.log 2)⁻¹ : ℝ) : EReal)

def holds_KernelIdeal_near_reference_pre_angles_in_range [hKernelIdeal : Cert.KernelIdeal.Facts] [hPre_angles_in_range : Cert.Pre_angles_in_range.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_angles_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v8))) = (fun _ => 1#1))

def preserves_Tail_TailIdeal : Prop :=
  IdealRules.named_const.Statement Cert.TailIdeal.κ "scale_log2e" .bf16 0x3E39#16 ((8⁻¹ * (Real.log 2)⁻¹ : ℝ) : EReal)

def algebraic_TailIdeal_TailReferenceIdeal_pre_cosines_finite [hTailIdeal : Cert.TailIdeal.Facts] [hTailReferenceIdeal : Cert.TailReferenceIdeal.Facts] [hPre_cosines_finite : Cert.Pre_cosines_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_cosines_finite m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v6)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v22) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2))

def preserves_Cosines_CosinesIdeal : Prop :=
  True

def holds_CosinesIdeal_near_cosines_pre_angles_moderate [hCosinesIdeal : Cert.CosinesIdeal.Facts] [hPre_angles_moderate : Cert.Pre_angles_moderate.Facts] [hPost_near_cosines : Cert.Post_near_cosines.Facts] : Prop :=
  ∀ (m : (ℓ : Loc Cert.CosinesIdeal.nD Cert.CosinesIdeal.τ Cert.CosinesIdeal.sig) → Buf (Elt Ideal) ℓ) (g : Dev Cert.CosinesIdeal.nD → PrngReg), Pre_CosinesIdeal_angles_moderate m →
    θ_run (Cert.CosinesIdeal.defs (F := Ideal)) (onTc (τ := Cert.CosinesIdeal.τ) (Cert.CosinesIdeal.main (F := Ideal))) ⟨m, fun _ => 0, g⟩ (fun r => ∀ c : Dev Cert.CosinesIdeal.nD,
      r.2.mem ((c.tc : Thread Cert.CosinesIdeal.nD Cert.CosinesIdeal.τ).loc Cert.CosinesIdeal.main_arg0) = m ((c.tc : Thread Cert.CosinesIdeal.nD Cert.CosinesIdeal.τ).loc Cert.CosinesIdeal.main_arg0)
      ∧ r.2.mem ((c.tc : Thread Cert.CosinesIdeal.nD Cert.CosinesIdeal.τ).loc Cert.CosinesIdeal.main_arg1) = m ((c.tc : Thread Cert.CosinesIdeal.nD Cert.CosinesIdeal.τ).loc Cert.CosinesIdeal.main_arg1)
      ∧ (Cert.Post_near_cosines.fn (F := Ideal) (m ((c.tc : Thread Cert.CosinesIdeal.nD Cert.CosinesIdeal.τ).loc Cert.CosinesIdeal.main_arg0)) (m ((c.tc : Thread Cert.CosinesIdeal.nD Cert.CosinesIdeal.τ).loc Cert.CosinesIdeal.main_arg1)) (r.2.mem ((c.tc : Thread Cert.CosinesIdeal.nD Cert.CosinesIdeal.τ).loc Cert.CosinesIdeal.main_v1))) = (fun _ => 1#1))

def Claim : Prop :=
  ∃ (hKernel : Cert.Kernel.Facts) (hKernelIdeal : Cert.KernelIdeal.Facts) (hTail : Cert.Tail.Facts) (hTailIdeal : Cert.TailIdeal.Facts) (hTailReferenceIdeal : Cert.TailReferenceIdeal.Facts) (hCosines : Cert.Cosines.Facts) (hCosinesIdeal : Cert.CosinesIdeal.Facts) (hPre_angles_in_range : Cert.Pre_angles_in_range.Facts) (hPre_cosines_finite : Cert.Pre_cosines_finite.Facts) (hPre_angles_moderate : Cert.Pre_angles_moderate.Facts) (hPost_near_reference : Cert.Post_near_reference.Facts) (hPost_near_cosines : Cert.Post_near_cosines.Facts),
    quiescent_Kernel (hKernel := hKernel)
    ∧ quiescent_KernelIdeal (hKernelIdeal := hKernelIdeal)
    ∧ quiescent_KernelIdeal_pre_angles_in_range (hKernelIdeal := hKernelIdeal) (hPre_angles_in_range := hPre_angles_in_range)
    ∧ quiescent_Tail (hTail := hTail)
    ∧ quiescent_TailIdeal (hTailIdeal := hTailIdeal)
    ∧ quiescent_TailIdeal_pre_cosines_finite (hTailIdeal := hTailIdeal) (hPre_cosines_finite := hPre_cosines_finite)
    ∧ quiescent_TailReferenceIdeal (hTailReferenceIdeal := hTailReferenceIdeal)
    ∧ quiescent_TailReferenceIdeal_pre_cosines_finite (hTailReferenceIdeal := hTailReferenceIdeal) (hPre_cosines_finite := hPre_cosines_finite)
    ∧ quiescent_Cosines (hCosines := hCosines)
    ∧ quiescent_CosinesIdeal (hCosinesIdeal := hCosinesIdeal)
    ∧ quiescent_CosinesIdeal_pre_angles_moderate (hCosinesIdeal := hCosinesIdeal) (hPre_angles_moderate := hPre_angles_moderate)
    ∧ preserves_Kernel_KernelIdeal
    ∧ holds_KernelIdeal_near_reference_pre_angles_in_range (hKernelIdeal := hKernelIdeal) (hPre_angles_in_range := hPre_angles_in_range) (hPost_near_reference := hPost_near_reference)
    ∧ preserves_Tail_TailIdeal
    ∧ algebraic_TailIdeal_TailReferenceIdeal_pre_cosines_finite (hTailIdeal := hTailIdeal) (hTailReferenceIdeal := hTailReferenceIdeal) (hPre_cosines_finite := hPre_cosines_finite)
    ∧ preserves_Cosines_CosinesIdeal
    ∧ holds_CosinesIdeal_near_cosines_pre_angles_moderate (hCosinesIdeal := hCosinesIdeal) (hPre_angles_moderate := hPre_angles_moderate) (hPost_near_cosines := hPost_near_cosines)
-- ==== Post_near_cosines.lean ====
abbrev S4x2048x1024 : Shape := ⟨3, ![4, 2048, 1024]⟩
abbrev S16x64 : Shape := ⟨2, ![16, 64]⟩
abbrev S4x16x2048x64 : Shape := ⟨4, ![4, 16, 2048, 64]⟩
abbrev S4x2048x16x64 : Shape := ⟨4, ![4, 2048, 16, 64]⟩
abbrev S1x1x16x64 : Shape := ⟨4, ![1, 1, 16, 64]⟩
abbrev S_ : Shape := ⟨0, ![]⟩

class Facts : Prop where
  shapeCasts_S4x2048x1024_S4x2048x16x64 : S4x2048x1024.ShapeCasts S4x2048x16x64
  bcast_S16x64_S1x1x16x64_2_3 : S16x64.BroadcastsInDim S1x1x16x64 (![2, 3] : Fin 2 → Fin S1x1x16x64.rank)
  bcast_S1x1x16x64_S4x2048x16x64_0_1_2_3 : S1x1x16x64.BroadcastsInDim S4x2048x16x64 (![0, 1, 2, 3] : Fin 4 → Fin S4x2048x16x64.rank)
  transposes_S4x2048x16x64_S4x16x2048x64_0_2_1_3 : S4x2048x16x64.Transposes [0, 2, 1, 3] S4x16x2048x64
  bitsLt_bf16_f32 : FTy.bits .bf16 < FTy.bits .f32
  bcast_S_S4x16x2048x64 : S_.BroadcastsInDim S4x16x2048x64 (![] : Fin 0 → Fin S4x16x2048x64.rank)

variable [Facts]

def fn {F : FTy → Type} [FloatOps F] (main_arg0 : FVec F S4x2048x1024 .f32) (main_arg1 : FVec F S16x64 .f32) (main_arg2 : FVec F S4x16x2048x64 .bf16) : IVec S4x16x2048x64 1 :=
  let main_v0 : FVec F S4x2048x16x64 .f32 := shapeCast S4x2048x16x64 main_arg0 shapeCasts_S4x2048x1024_S4x2048x16x64
  let main_v1 : FVec F S1x1x16x64 .f32 := broadcastInDim S1x1x16x64 ![2, 3] bcast_S16x64_S1x1x16x64_2_3 main_arg1
  let main_v2 : FVec F S4x2048x16x64 .f32 := broadcastInDim S4x2048x16x64 ![0, 1, 2, 3] bcast_S1x1x16x64_S4x2048x16x64_0_1_2_3 main_v1
  let main_v3 : FVec F S4x2048x16x64 .f32 := addf main_v0 main_v2
  let main_v4 : FVec F S4x2048x16x64 .f32 := Host.cos main_v3
  let main_v5 : FVec F S4x16x2048x64 .f32 := (transpose S4x16x2048x64 [0, 2, 1, 3] · transposes_S4x2048x16x64_S4x16x2048x64_0_2_1_3) main_v4
  let main_v6 : FVec F S4x16x2048x64 .f32 := (extf .f32 · bitsLt_bf16_f32) main_arg2
  let main_v7 : FVec F S4x16x2048x64 .f32 := subf main_v6 main_v5
  let main_v8 : FVec F S4x16x2048x64 .f32 := Host.absf main_v7
  let main_cst : FVec F S_ .f32 := constant S_ .f32 0x3727C5AC#32
  let main_v9 : FVec F S4x16x2048x64 .f32 := broadcastInDim S4x16x2048x64 ![] bcast_S_S4x16x2048x64 main_cst
  let main_v10 : IVec S4x16x2048x64 1 := cmpf .ole main_v8 main_v9
  main_v10
-- ==== Post_near_reference.lean ====
abbrev S4x2048x1024 : Shape := ⟨3, ![4, 2048, 1024]⟩
abbrev S16x64 : Shape := ⟨2, ![16, 64]⟩
abbrev S1024x1024 : Shape := ⟨2, ![1024, 1024]⟩
abbrev S1024 : Shape := ⟨1, ![1024]⟩
abbrev S4x2048x16x64 : Shape := ⟨4, ![4, 2048, 16, 64]⟩
abbrev S1x1x16x64 : Shape := ⟨4, ![1, 1, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

class Facts : Prop where
  shapeCasts_S4x2048x1024_S4x2048x16x64 : S4x2048x1024.ShapeCasts S4x2048x16x64
  bcast_S16x64_S1x1x16x64_2_3 : S16x64.BroadcastsInDim S1x1x16x64 (![2, 3] : Fin 2 → Fin S1x1x16x64.rank)
  bcast_S1x1x16x64_S4x2048x16x64_0_1_2_3 : S1x1x16x64.BroadcastsInDim S4x2048x16x64 (![0, 1, 2, 3] : Fin 4 → Fin S4x2048x16x64.rank)
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  transposes_S1024x1024_S1024x1024_1_0 : S1024x1024.Transposes [1, 0] S1024x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S1024x1024_S1024_d1 : S1024x1024.ReducesTo [1] S1024
  bcast_S_S1024 : S_.BroadcastsInDim S1024 (![] : Fin 0 → Fin S1024.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def fn_part1 {F : FTy → Type} [FloatOps F] (main_arg2 : FVec F S1024x1024 .f32) (main_arg3 : FVec F S1024 .f32) (main_arg4 : FVec F S4x2048x1024 .f32) (main_v5 : FVec F S4x16x2048x64 .f32) (main_v19 : FVec F S4x16x2048x2048 .f32) : IVec S4x2048x1024 1 :=
  let main_v20 : FVec F S4x16x2048x64 .f32 := (fun l r => Host.dotGeneral dot_S4x16x2048x2048_S4x16x2048x64_S4x16x2048x64_3_2_2_3_01_01 none l r) main_v19 main_v5
  let main_v21 : FVec F S4x2048x16x64 .f32 := (transpose S4x2048x16x64 [0, 2, 1, 3] · transposes_S4x16x2048x64_S4x2048x16x64_0_2_1_3) main_v20
  let main_v22 : FVec F S4x2048x1024 .f32 := shapeCast S4x2048x1024 main_v21 shapeCasts_S4x2048x16x64_S4x2048x1024
  let main_v23 : FVec F S1024x1024 .f32 := (transpose S1024x1024 [1, 0] · transposes_S1024x1024_S1024x1024_1_0) main_arg2
  let main_v24 : FVec F S4x2048x1024 .f32 := (fun l r => Host.dotGeneral dot_S4x2048x1024_S1024x1024_S4x2048x1024_2_0_01_1_n_n none l r) main_v22 main_v23
  let main_v25 : FVec F S1x1x1024 .f32 := broadcastInDim S1x1x1024 ![2] bcast_S1024_S1x1x1024_2 main_arg3
  let main_v26 : FVec F S4x2048x1024 .f32 := broadcastInDim S4x2048x1024 ![0, 1, 2] bcast_S1x1x1024_S4x2048x1024_0_1_2 main_v25
  let main_v27 : FVec F S4x2048x1024 .f32 := addf main_v24 main_v26
  let main_v28 : FVec F S4x2048x1024 .f32 := subf main_arg4 main_v27
  let main_v29 : FVec F S4x2048x1024 .f32 := Host.absf main_v28
  let main_v30 : FVec F S1024x1024 .f32 := Host.absf main_arg2
  let main_cst_3 : FVec F S_ .f32 := constant S_ .f32 0x00000000#32
  let main_v31 : FVec F S1024 .f32 := (fun x v => Host.reduceAdd x v reducesTo_S1024x1024_S1024_d1 h_S_) main_v30 main_cst_3
  let main_cst_4 : FVec F S_ .f32 := constant S_ .f32 0x3A03126F#32
  let main_v32 : FVec F S1024 .f32 := broadcastInDim S1024 ![] bcast_S_S1024 main_cst_4
  let main_v33 : FVec F S1024 .f32 := mulf main_v32 main_v31
  let main_v34 : FVec F S1x1x1024 .f32 := broadcastInDim S1x1x1024 ![2] bcast_S1024_S1x1x1024_2 main_v33
  let main_v35 : FVec F S4x2048x1024 .f32 := broadcastInDim S4x2048x1024 ![0, 1, 2] bcast_S1x1x1024_S4x2048x1024_0_1_2 main_v34
  let main_v36 : IVec S4x2048x1024 1 := cmpf .ole main_v29 main_v35
  let main_v37 : IVec S4x2048x1024 1 := cmpf .oeq main_arg4 main_v27
  let main_v38 : IVec S4x2048x1024 1 := ori main_v36 main_v37
  main_v38

def fn {F : FTy → Type} [FloatOps F] (main_arg0 : FVec F S4x2048x1024 .f32) (main_arg1 : FVec F S16x64 .f32) (main_arg2 : FVec F S1024x1024 .f32) (main_arg3 : FVec F S1024 .f32) (main_arg4 : FVec F S4x2048x1024 .f32) : IVec S4x2048x1024 1 :=
  let main_v0 : FVec F S4x2048x16x64 .f32 := shapeCast S4x2048x16x64 main_arg0 shapeCasts_S4x2048x1024_S4x2048x16x64
  let main_v1 : FVec F S1x1x16x64 .f32 := broadcastInDim S1x1x16x64 ![2, 3] bcast_S16x64_S1x1x16x64_2_3 main_arg1
  let main_v2 : FVec F S4x2048x16x64 .f32 := broadcastInDim S4x2048x16x64 ![0, 1, 2, 3] bcast_S1x1x16x64_S4x2048x16x64_0_1_2_3 main_v1
  let main_v3 : FVec F S4x2048x16x64 .f32 := addf main_v0 main_v2
  let main_v4 : FVec F S4x2048x16x64 .f32 := Host.cos main_v3
  let main_v5 : FVec F S4x16x2048x64 .f32 := (transpose S4x16x2048x64 [0, 2, 1, 3] · transposes_S4x2048x16x64_S4x16x2048x64_0_2_1_3) main_v4
  let main_v6 : FVec F S4x16x2048x2048 .f32 := (fun l r => Host.dotGeneral dot_S4x16x2048x64_S4x16x2048x64_S4x16x2048x2048_3_3_2_2_01_01 none l r) main_v5 main_v5
  let main_cst : FVec F S_ .f32 := constant S_ .f32 0x3E000000#32
  let main_v7 : FVec F S4x16x2048x2048 .f32 := broadcastInDim S4x16x2048x2048 ![] bcast_S_S4x16x2048x2048 main_cst
  let main_v8 : FVec F S4x16x2048x2048 .f32 := mulf main_v6 main_v7
  let main_cst_0 : FVec F S_ .f32 := constant S_ .f32 0xFF800000#32
  let main_v9 : FVec F S4x16x2048 .f32 := (fun x v => Host.reduce FloatOps.maximumf x v reducesTo_S4x16x2048x2048_S4x16x2048_d3 h_S_) main_v8 main_cst_0
  let main_cst_1 : FVec F S_ .f32 := constant S_ .f32 0xFF800000#32
  let main_v10 : FVec F S4x16x2048 .f32 := broadcastInDim S4x16x2048 ![] bcast_S_S4x16x2048 main_cst_1
  let main_v11 : FVec F S4x16x2048 .f32 := maximumf main_v10 main_v9
  let main_v12 : FVec F S4x16x2048x1 .f32 := broadcastInDim S4x16x2048x1 ![0, 1, 2] bcast_S4x16x2048_S4x16x2048x1_0_1_2 main_v11
  let main_v13 : FVec F S4x16x2048x2048 .f32 := broadcastInDim S4x16x2048x2048 ![0, 1, 2, 3] bcast_S4x16x2048x1_S4x16x2048x2048_0_1_2_3 main_v12
  let main_v14 : FVec F S4x16x2048x2048 .f32 := subf main_v8 main_v13
  let main_v15 : FVec F S4x16x2048x2048 .f32 := Host.exp main_v14
  let main_cst_2 : FVec F S_ .f32 := constant S_ .f32 0x00000000#32
  let main_v16 : FVec F S4x16x2048 .f32 := (fun x v => Host.reduceAdd x v reducesTo_S4x16x2048x2048_S4x16x2048_d3 h_S_) main_v15 main_cst_2
  let main_v17 : FVec F S4x16x2048x1 .f32 := broadcastInDim S4x16x2048x1 ![0, 1, 2] bcast_S4x16x2048_S4x16x2048x1_0_1_2 main_v16
  let main_v18 : FVec F S4x16x2048x2048 .f32 := broadcastInDim S4x16x2048x2048 ![0, 1, 2, 3] bcast_S4x16x2048x1_S4x16x2048x2048_0_1_2_3 main_v17
  let main_v19 : FVec F S4x16x2048x2048 .f32 := Host.divf main_v15 main_v18
  fn_part1 (F := F) main_arg2 main_arg3 main_arg4 main_v5 main_v19
-- ==== Pre_angles_in_range.lean ====
abbrev S4x2048x1024 : Shape := ⟨3, ![4, 2048, 1024]⟩
abbrev S16x64 : Shape := ⟨2, ![16, 64]⟩
abbrev S1024x1024 : Shape := ⟨2, ![1024, 1024]⟩
abbrev S1024 : Shape := ⟨1, ![1024]⟩
abbrev S4x2048x16x64 : Shape := ⟨4, ![4, 2048, 16, 64]⟩
abbrev S1x1x16x64 : Shape := ⟨4, ![1, 1, 16, 64]⟩
abbrev S_ : Shape := ⟨0, ![]⟩

class Facts : Prop where
  shapeCasts_S4x2048x1024_S4x2048x16x64 : S4x2048x1024.ShapeCasts S4x2048x16x64
  bcast_S16x64_S1x1x16x64_2_3 : S16x64.BroadcastsInDim S1x1x16x64 (![2, 3] : Fin 2 → Fin S1x1x16x64.rank)
  bcast_S1x1x16x64_S4x2048x16x64_0_1_2_3 : S1x1x16x64.BroadcastsInDim S4x2048x16x64 (![0, 1, 2, 3] : Fin 4 → Fin S4x2048x16x64.rank)
  bcast_S_S4x2048x16x64 : S_.BroadcastsInDim S4x2048x16x64 (![] : Fin 0 → Fin S4x2048x16x64.rank)

variable [Facts]

def fn {F : FTy → Type} [FloatOps F] (main_arg0 : FVec F S4x2048x1024 .f32) (main_arg1 : FVec F S16x64 .f32) (main_arg2 : FVec F S1024x1024 .f32) (main_arg3 : FVec F S1024 .f32) : IVec S4x2048x16x64 1 :=
  let main_v0 : FVec F S4x2048x16x64 .f32 := shapeCast S4x2048x16x64 main_arg0 shapeCasts_S4x2048x1024_S4x2048x16x64
  let main_v1 : FVec F S1x1x16x64 .f32 := broadcastInDim S1x1x16x64 ![2, 3] bcast_S16x64_S1x1x16x64_2_3 main_arg1
  let main_v2 : FVec F S4x2048x16x64 .f32 := broadcastInDim S4x2048x16x64 ![0, 1, 2, 3] bcast_S1x1x16x64_S4x2048x16x64_0_1_2_3 main_v1
  let main_v3 : FVec F S4x2048x16x64 .f32 := addf main_v0 main_v2
  let main_v4 : FVec F S4x2048x16x64 .f32 := Host.absf main_v3
  let main_cst : FVec F S_ .f32 := constant S_ .f32 0x47C35000#32
  let main_v5 : FVec F S4x2048x16x64 .f32 := broadcastInDim S4x2048x16x64 ![] bcast_S_S4x2048x16x64 main_cst
  let main_v6 : IVec S4x2048x16x64 1 := cmpf .ole main_v4 main_v5
  main_v6
-- ==== Pre_angles_moderate.lean ====
abbrev S4x2048x1024 : Shape := ⟨3, ![4, 2048, 1024]⟩
abbrev S16x64 : Shape := ⟨2, ![16, 64]⟩
abbrev S4x2048x16x64 : Shape := ⟨4, ![4, 2048, 16, 64]⟩
abbrev S1x1x16x64 : Shape := ⟨4, ![1, 1, 16, 64]⟩
abbrev S_ : Shape := ⟨0, ![]⟩

class Facts : Prop where
  shapeCasts_S4x2048x1024_S4x2048x16x64 : S4x2048x1024.ShapeCasts S4x2048x16x64
  bcast_S16x64_S1x1x16x64_2_3 : S16x64.BroadcastsInDim S1x1x16x64 (![2, 3] : Fin 2 → Fin S1x1x16x64.rank)
  bcast_S1x1x16x64_S4x2048x16x64_0_1_2_3 : S1x1x16x64.BroadcastsInDim S4x2048x16x64 (![0, 1, 2, 3] : Fin 4 → Fin S4x2048x16x64.rank)
  bcast_S_S4x2048x16x64 : S_.BroadcastsInDim S4x2048x16x64 (![] : Fin 0 → Fin S4x2048x16x64.rank)

variable [Facts]

def fn {F : FTy → Type} [FloatOps F] (main_arg0 : FVec F S4x2048x1024 .f32) (main_arg1 : FVec F S16x64 .f32) : IVec S4x2048x16x64 1 :=
  let main_v0 : FVec F S4x2048x16x64 .f32 := shapeCast S4x2048x16x64 main_arg0 shapeCasts_S4x2048x1024_S4x2048x16x64
  let main_v1 : FVec F S1x1x16x64 .f32 := broadcastInDim S1x1x16x64 ![2, 3] bcast_S16x64_S1x1x16x64_2_3 main_arg1
  let main_v2 : FVec F S4x2048x16x64 .f32 := broadcastInDim S4x2048x16x64 ![0, 1, 2, 3] bcast_S1x1x16x64_S4x2048x16x64_0_1_2_3 main_v1
  let main_v3 : FVec F S4x2048x16x64 .f32 := addf main_v0 main_v2
  let main_v4 : FVec F S4x2048x16x64 .f32 := Host.absf main_v3
  let main_cst : FVec F S_ .f32 := constant S_ .f32 0x47C35000#32
  let main_v5 : FVec F S4x2048x16x64 .f32 := broadcastInDim S4x2048x16x64 ![] bcast_S_S4x2048x16x64 main_cst
  let main_v6 : IVec S4x2048x16x64 1 := cmpf .ole main_v4 main_v5
  main_v6
-- ==== Pre_cosines_finite.lean ====
abbrev S4x16x2048x64 : Shape := ⟨4, ![4, 16, 2048, 64]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S4x16x2048x64 : S_.BroadcastsInDim S4x16x2048x64 (![] : Fin 0 → Fin S4x16x2048x64.rank)

variable [Facts]

def fn {F : FTy → Type} [FloatOps F] (main_arg0 : FVec F S4x16x2048x64 .bf16) (main_arg1 : FVec F S1024x1024 .f32) (main_arg2 : FVec F S1024 .f32) : IVec S4x16x2048x64 1 :=
  let main_v0 : FVec F S4x16x2048x64 .f32 := (extf .f32 · bitsLt_bf16_f32) main_arg0
  let main_v1 : FVec F S4x16x2048x64 .f32 := Host.absf main_v0
  let main_cst : FVec F S_ .f32 := constant S_ .f32 0x7F800000#32
  let main_v2 : FVec F S4x16x2048x64 .f32 := broadcastInDim S4x16x2048x64 ![] bcast_S_S4x16x2048x64 main_cst
  let main_v3 : IVec S4x16x2048x64 1 := cmpf .olt main_v1 main_v2
  main_v3
-- ==== Kernel.lean ====
abbrev S4x2048x1024 : Shape := ⟨3, ![4, 2048, 1024]⟩
abbrev S16x64 : Shape := ⟨2, ![16, 64]⟩
abbrev S1024x1024 : Shape := ⟨2, ![1024, 1024]⟩
abbrev S1024 : Shape := ⟨1, ![1024]⟩
abbrev S1x1x1024 : Shape := ⟨3, ![1, 1, 1024]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S1x1024 : Shape := ⟨2, ![1, 1024]⟩
abbrev S512x64 : Shape := ⟨2, ![512, 64]⟩
abbrev S1x1x512x64 : Shape := ⟨4, ![1, 1, 512, 64]⟩
abbrev S64x2048x64 : Shape := ⟨3, ![64, 2048, 64]⟩
abbrev S1x2048x64 : Shape := ⟨3, ![1, 2048, 64]⟩
abbrev S2048x128 : Shape := ⟨2, ![2048, 128]⟩
abbrev S256x2048 : Shape := ⟨2, ![256, 2048]⟩
abbrev S2048x64 : Shape := ⟨2, ![2048, 64]⟩
abbrev S256x128 : Shape := ⟨2, ![256, 128]⟩
abbrev S512x128 : Shape := ⟨2, ![512, 128]⟩
abbrev S256x512 : Shape := ⟨2, ![256, 512]⟩
abbrev S256x1 : Shape := ⟨2, ![256, 1]⟩
abbrev S256x64 : Shape := ⟨2, ![256, 64]⟩
abbrev S1x256x64 : Shape := ⟨3, ![1, 256, 64]⟩

abbrev nBuf : Space → Nat
  | .hbm => 13
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S16x64, .f32⟩
  | .hbm, ⟨2, _⟩ => ⟨S1024x1024, .f32⟩
  | .hbm, ⟨3, _⟩ => ⟨S1024, .f32⟩
  | .hbm, ⟨4, _⟩ => ⟨S1x1x1024, .f32⟩
  | .hbm, ⟨5, _⟩ => ⟨S4x16x2048x64, .bf16⟩
  | .hbm, ⟨6, _⟩ => ⟨S64x2048x64, .bf16⟩
  | .hbm, ⟨7, _⟩ => ⟨S64x2048x64, .bf16⟩
  | .hbm, ⟨8, _⟩ => ⟨S4x16x2048x64, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x16x512x64, .bf16⟩
  | .local _ .vmem, ⟨4, _⟩ => ⟨S1x16x512x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S2048x128, .bf16⟩
  | .local _ .vmem, ⟨10, _⟩ => ⟨S256x2048, .bf16⟩
  | .local _ .vmem, ⟨11, _⟩ => ⟨S1x16x512x64, .bf16⟩
  | .local _ .vmem, ⟨12, _⟩ => ⟨S1x16x512x64, .bf16⟩
  | .local _ .vmem, ⟨13, _⟩ => ⟨S1024x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, c0_i32_11.toNat, v30.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 8], ![false, false]⟩

def cc2_transform_0 (i : grid2.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, c0_i32_11.toNat, v30.toNat, c0_i32_12.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "scale_log2e" => some ((8⁻¹ * (Real.log 2)⁻¹ : ℝ) : EReal)
  | _ => none
-- ==== Tail.lean ====
abbrev S4x16x2048x64 : Shape := ⟨4, ![4, 16, 2048, 64]⟩
abbrev S1024x1024 : Shape := ⟨2, ![1024, 1024]⟩
abbrev S1024 : Shape := ⟨1, ![1024]⟩
abbrev S64x2048x64 : Shape := ⟨3, ![64, 2048, 64]⟩
abbrev S1x2048x64 : Shape := ⟨3, ![1, 2048, 64]⟩
abbrev S2048x128 : Shape := ⟨2, ![2048, 128]⟩
abbrev S256x2048 : Shape := ⟨2, ![256, 2048]⟩
abbrev S2048x64 : Shape := ⟨2, ![2048, 64]⟩
abbrev S256x128 : Shape := ⟨2, ![256, 128]⟩
abbrev S512x128 : Shape := ⟨2, ![512, 128]⟩
abbrev S256x512 : Shape := ⟨2, ![256, 512]⟩
abbrev S256x1 : Shape := ⟨2, ![256, 1]⟩
abbrev S256x64 : Shape := ⟨2, ![256, 64]⟩
abbrev S1x256x64 : Shape := ⟨3, ![1, 256, 64]⟩
abbrev S1x1024 : Shape := ⟨2, ![1, 1024]⟩
abbrev S4x2048x1024 : Shape := ⟨3, ![4, 2048, 1024]⟩
abbrev S1x16x512x64 : Shape := ⟨4, ![1, 16, 512, 64]⟩
abbrev S1x512x1024 : Shape := ⟨3, ![1, 512, 1024]⟩
abbrev S1x1x512x64 : Shape := ⟨4, ![1, 1, 512, 64]⟩
abbrev S512x64 : Shape := ⟨2, ![512, 64]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4x16x2048x64, .bf16⟩
  | .hbm, ⟨1, _⟩ => ⟨S1024x1024, .f32⟩
  | .hbm, ⟨2, _⟩ => ⟨S1024, .f32⟩
  | .hbm, ⟨3, _⟩ => ⟨S64x2048x64, .bf16⟩
  | .hbm, ⟨4, _⟩ => ⟨S64x2048x64, .bf16⟩
  | .hbm, ⟨5, _⟩ => ⟨S4x16x2048x64, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S4x2048x1024, .f32⟩
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S2048x128, .bf16⟩
  | .local _ .vmem, ⟨5, _⟩ => ⟨S256x2048, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x16x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, c0_i32_11.toNat, v30.toNat, c0_i32_12.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

abbrev stage1_0 : Fin 2 → Memref sig .tc .vmem S1x16x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== TailIdeal.lean ====
variable {F : FTy → Type} [FloatOps F] [Named F]
def κ : String → Option EReal := fun
  | "scale_log2e" => some ((8⁻¹ * (Real.log 2)⁻¹ : ℝ) : EReal)
  | _ => none
-- ==== TailReferenceIdeal.lean ====
abbrev S4x16x2048x64 : Shape := ⟨4, ![4, 16, 2048, 64]⟩
abbrev S1024x1024 : Shape := ⟨2, ![1024, 1024]⟩
abbrev S1024 : Shape := ⟨1, ![1024]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S4x2048x1024 : Shape := ⟨3, ![4, 2048, 1024]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x16x2048x64, .bf16⟩
  | .hbm, ⟨1, _⟩ => ⟨S1024x1024, .f32⟩
  | .hbm, ⟨2, _⟩ => ⟨S1024, .f32⟩
  | .hbm, ⟨3, _⟩ => ⟨S4x16x2048x64, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048, .f32⟩
  | .hbm, ⟨10, _⟩ => ⟨S_, .f32⟩
  | .hbm, ⟨11, _⟩ => ⟨S4x16x2048, .f32⟩
  | .hbm, ⟨12, _⟩ => ⟨S4x16x2048, .f32⟩
  | .hbm, ⟨13, _⟩ => ⟨S4x16x2048x1, .f32⟩
  | .hbm, ⟨14, _⟩ => ⟨S4x16x2048x2048, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x64, .f32⟩
  | .hbm, ⟨23, _⟩ => ⟨S4x2048x16x64, .f32⟩
  | .hbm, ⟨24, _⟩ => ⟨S4x2048x1024, .f32⟩
  | .hbm, ⟨25, _⟩ => ⟨S1024x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | _, _ => ⟨S4x16x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Cosines.lean ====
abbrev S4x2048x1024 : Shape := ⟨3, ![4, 2048, 1024]⟩
abbrev S16x64 : Shape := ⟨2, ![16, 64]⟩
abbrev S1x1x1024 : Shape := ⟨3, ![1, 1, 1024]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S1x1024 : Shape := ⟨2, ![1, 1024]⟩
abbrev S512x64 : Shape := ⟨2, ![512, 64]⟩
abbrev S1x1x512x64 : Shape := ⟨4, ![1, 1, 512, 64]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S16x64, .f32⟩
  | .hbm, ⟨2, _⟩ => ⟨S1x1x1024, .f32⟩
  | .hbm, ⟨3, _⟩ => ⟨S4x16x2048x64, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x16x512x64, .bf16⟩
  | .local _ .vmem, ⟨4, _⟩ => ⟨S1x16x512x64, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  let c0_i32_13 : BitVec 32 := 0#32
  ![v18.toNat, c0_i32_11.toNat, v30.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Proof.AttnPays.lean ====
/- The computations of the attention body at an index, over the extended reals. -/
module

public import proofs.«01_k».proof.Proof.Gen.TailIdeal.Skeleton
public import Idealize.ShloMosaic.Lib.Pointwise

@[expose] public section

set_option maxRecDepth 16384

noncomputable section

namespace Cert.TailIdeal.Value

open Cert.TailIdeal Cert.TailIdeal.Gen
open Idealize.ShloMosaic Idealize.ShloMosaic.TcCoe Idealize.SL.Sem

/-- The factor of the queries: the attention's scale times the base-two logarithm of e. -/
def scale : EReal := ((8⁻¹ * (Real.log 2)⁻¹ : ℝ) : EReal)

/-- The scores of a block of queries `q` against rows `k`, before the normalisation, at row `a`, key `b`. -/
def scoreAt {n p : ℕ} (q : (Shape.mk 2 ![n, 128]).Idx → EReal) (k : (Shape.mk 2 ![p, 128]).Idx → EReal)
    (a : Fin n) (b : Fin p) : EReal :=
  Ideal.exp2 (∑ x : Fin 128, q (ix2 a x) * scale * k (ix2 b x))

theorem pay5_apply (q : Vec Ideal S256x128 .bf16) (k : Vec Ideal S512x128 .bf16) (a : Fin 256) (b : Fin 512) :
    k0_pay5 (F := Ideal) q k (ix2 a b) = scoreAt q k a b := by
  unfold k0_pay5 k0_pay4
  pointwise
  rfl

theorem pay9_apply (e : Vec Ideal S256x2048 .bf16) (K : Vec Ideal S2048x128 .bf16) (a : Fin 256) (d : Fin 64) :
    k0_pay9 (F := Ideal) e K (ix3 0 a d)
      = (∑ x : Fin 2048, e (ix2 a x) * K (ix2 x ⟨d, by omega⟩)) * Ideal.div 1 (∑ x : Fin 2048, e (ix2 a x) * K (ix2 x 64)) := by
  unfold k0_pay9
  pointwise

theorem pay2_apply (x : Vec Ideal S1x2048x64 .bf16)  (a : Fin 2048) (d : Fin 64) :
    k0_pay2 (F := Ideal) x (ix2 a d) = x (ix3 0 a d) := by
  unfold k0_pay2
  pointwise

theorem pay3_apply  (a : Fin 2048) (d : Fin 64) :
    k0_pay3 (F := Ideal) (ix2 a d) = if d = 0 then 1 else 0 := by
  unfold k0_pay3
  pointwise
  rcases eq_or_ne d 0 with rfl | h
  · rfl
  · rw [if_neg h]
    have h' : (BitVec.ofNat 32 d.val) ≠ 0#32 := by
      intro e
      have := congrArg BitVec.toNat e
      simp at this
      exact h (Fin.ext (by simp; omega))
    have hb : (BitVec.ofNat 32 d.val == 0#32) = false := beq_eq_false_iff_ne.mpr h'
    simp [Scalar.select, IntOp.cmpi, hb]

end Cert.TailIdeal.Value

end
-- ==== Proof.AttnBlock.lean ====
/-
  What the attention body leaves in its output block, for the block `x` of one head's rows. The scratch of rows is `x`
  with a column of ones behind it (`kvx`); a block of 256 rows of scores is `exp2` of scaled products of those rows;
  the output row is the scores' product with the rows, over the product's column 64.
-/
module

public import proofs.«01_k».proof.Proof.Gen.TailIdeal.Frame
public import proofs.«01_k».proof.Proof.AttnPays
public import Idealize.ShloMosaic.Lib.Pipeline.ReadBack
public import Idealize.ShloMosaic.Lib.Pipeline.ValueKit

@[expose] public section

set_option maxRecDepth 16384

noncomputable section

namespace Cert.TailIdeal.Value

open Cert.TailIdeal Cert.TailIdeal.Gen
open Idealize.ShloMosaic Idealize.ShloMosaic.TcCoe Idealize.SL.Sem

variable {sg : RefSig}

/-! ## The scratch of rows -/

/-- Row `r` of the block, a one, and zeros. -/
def kvx (x : Vec Ideal S1x2048x64 .bf16) : Vec Ideal S2048x128 .bf16 := fun j =>
  if h : (j 1).val < 64 then x (ix3 0 (j 0) ⟨(j 1).val, h⟩) else if (j 1).val = 64 then 1 else 0

/-- The two stores that fill the scratch of rows, the later first. -/
abbrev kvPieces (x : Vec Ideal S1x2048x64 .bf16) : List (View.Piece (Elt Ideal) S2048x128 .bf16) :=
  [⟨Rect.unit (s := S2048x128) ![0, 64] S2048x64.size inb_S2048x128_S2048x64_0_64, k0_pay3 (F := Ideal)⟩,
   ⟨Rect.unit (s := S2048x128) ![0, 0] S2048x64.size inb_S2048x128_S2048x64_0_0, k0_pay2 (F := Ideal) x⟩]

/-- A unit rectangle's place of an index of rank two. -/
theorem emb_unit_ix2 {n0 n1 m0 m1 o p : ℕ} (h : ∀ a, ![o, p] a + (Shape.mk 2 ![m0, m1]).size a ≤ (Shape.mk 2 ![n0, n1]).size a)
    (a : Fin m0) (b : Fin m1) :
    (Rect.unit (s := Shape.mk 2 ![n0, n1]) ![o, p] (Shape.mk 2 ![m0, m1]).size h).emb (ix2 a b)
      = ix2 ⟨o + a, by have := h 0; simp at this; omega⟩ ⟨p + b, by have := h 1; simp at this; omega⟩ := by
  funext k
  match k with
  | ⟨0, _⟩ => exact Fin.ext (by simp [Rect.emb_apply, ix2])
  | ⟨1, _⟩ => exact Fin.ext (by simp [Rect.emb_apply, ix2])

/-- A unit rectangle's place of an index of rank three. -/
theorem emb_unit_ix3 {n0 n1 n2 m0 m1 m2 o p q : ℕ}
    (h : ∀ a, ![o, p, q] a + (Shape.mk 3 ![m0, m1, m2]).size a ≤ (Shape.mk 3 ![n0, n1, n2]).size a)
    (a : Fin m0) (b : Fin m1) (d : Fin m2) :
    (Rect.unit (s := Shape.mk 3 ![n0, n1, n2]) ![o, p, q] (Shape.mk 3 ![m0, m1, m2]).size h).emb (ix3 a b d)
      = ix3 ⟨o + a, by have := h 0; simp at this; omega⟩ ⟨p + b, by have := h 1; simp at this; omega⟩
          ⟨q + d, by have := h 2; simp at this; omega⟩ := by
  funext k
  match k with
  | ⟨0, _⟩ => exact Fin.ext (by simp [Rect.emb_apply, ix3])
  | ⟨1, _⟩ => exact Fin.ext (by simp [Rect.emb_apply, ix3])
  | ⟨2, _⟩ => exact Fin.ext (by simp [Rect.emb_apply, ix3])

theorem kvx_row (x : Vec Ideal S1x2048x64 .bf16) (r : Fin 2048) (d : Fin 64) (h : d.val < 128) :
    kvx x (ix2 r ⟨d, h⟩) = x (ix3 0 r d) := dif_pos d.isLt

theorem kvx_tail (x : Vec Ideal S1x2048x64 .bf16) (r : Fin 2048) (d : ℕ) (h : 64 + d < 128) :
    kvx x (ix2 r ⟨64 + d, h⟩) = if d = 0 then 1 else 0 := by
  have h' : ¬ ((ix2 r (⟨64 + d, h⟩ : Fin 128)) 1).val < 64 := by simp [ix2]
  unfold kvx
  rw [dif_neg h']
  exact if_congr (by simp [ix2]) rfl rfl

theorem kv_canon (x : Vec Ideal S1x2048x64 .bf16) : View.canon (kvPieces x) = kvx x := by
  funext y
  refine View.canon_append_of_piecesOf (kvx x) [] (kvPieces x) ⟨fun j => ?_, fun j => ?_, trivial⟩ y
    (View.cover_of_tiledL (kvPieces x) S2048x64.size (by sl_kernel_rfl) y)
  · obtain ⟨a, b, rfl⟩ : ∃ (a : Fin 2048) (b : Fin 64), j = ix2 a b := ⟨j 0, j 1, eq_ix2 j⟩
    refine (pay3_apply a b).trans (Eq.symm ((congrArg (kvx x) (emb_unit_ix2 inb_S2048x128_S2048x64_0_64 a b)).trans ?_))
    rw [show (⟨0 + a.val, by omega⟩ : Fin 2048) = a from Fin.ext (by simp)]
    exact (kvx_tail x a b.val (by omega)).trans (if_congr ⟨fun h => Fin.ext h, fun h => congrArg Fin.val h⟩ rfl rfl)
  · obtain ⟨a, b, rfl⟩ : ∃ (a : Fin 2048) (b : Fin 64), j = ix2 a b := ⟨j 0, j 1, eq_ix2 j⟩
    refine (pay2_apply x a b).trans (Eq.symm ((congrArg (kvx x) (emb_unit_ix2 inb_S2048x128_S2048x64_0_0 a b)).trans ?_))
    simp only [Nat.zero_add]
    exact kvx_row x a b _

/-- A load from the filled scratch. -/
theorem kv_read (v : View sg .tc .vmem S2048x128 .bf16) (x : Vec Ideal S1x2048x64 .bf16) (r : Rect S2048x128) :
    v.readCov (kvPieces x) r.toLoadRect = View.ld (kvx x) r := by
  rw [View.readCov_eq_canon', kv_canon]

/-! ## One block of scores -/

/-- The rows of the scratch that a block of queries is. -/
abbrev qRow (v : View sg .tc .vmem S2048x128 .bf16) (x : Vec Ideal S1x2048x64 .bf16) (o : ℕ)
    (h : ∀ a, ![o, 0] a + S256x128.size a ≤ S2048x128.size a) : Vec Ideal S256x128 .bf16 :=
  v.readCov (kvPieces x) (Rect.unit (s := S2048x128) ![o, 0] S256x128.size h).toLoadRect

/-- The rows of the scratch that a block of keys is. -/
abbrev kRow (v : View sg .tc .vmem S2048x128 .bf16) (x : Vec Ideal S1x2048x64 .bf16) (o : ℕ)
    (h : ∀ a, ![o, 0] a + S512x128.size a ≤ S2048x128.size a) : Vec Ideal S512x128 .bf16 :=
  v.readCov (kvPieces x) (Rect.unit (s := S2048x128) ![o, 0] S512x128.size h).toLoadRect

/-- The four stores of the scores of the queries `o … o + 255`. -/
abbrev scorePieces (v : View sg .tc .vmem S2048x128 .bf16) (x : Vec Ideal S1x2048x64 .bf16) (o : ℕ)
    (h : ∀ a, ![o, 0] a + S256x128.size a ≤ S2048x128.size a) : List (View.Piece (Elt Ideal) S256x2048 .bf16) :=
  [⟨Rect.unit (s := S256x2048) ![0, 1536] S256x512.size inb_S256x2048_S256x512_0_1536, k0_pay5 (F := Ideal) (qRow v x o h) (kRow v x 1536 inb_S2048x128_S512x128_1536_0)⟩,
   ⟨Rect.unit (s := S256x2048) ![0, 1024] S256x512.size inb_S256x2048_S256x512_0_1024, k0_pay5 (F := Ideal) (qRow v x o h) (kRow v x 1024 inb_S2048x128_S512x128_1024_0)⟩,
   ⟨Rect.unit (s := S256x2048) ![0, 512] S256x512.size inb_S256x2048_S256x512_0_512, k0_pay5 (F := Ideal) (qRow v x o h) (kRow v x 512 inb_S2048x128_S512x128_512_0)⟩,
   ⟨Rect.unit (s := S256x2048) ![0, 0] S256x512.size inb_S256x2048_S256x512_0_0, k0_pay5 (F := Ideal) (qRow v x o h) (kRow v x 0 inb_S2048x128_S512x128_0_0)⟩]

/-- The output store of the queries `o … o + 255`, the scores read over earlier stores `L`. -/
abbrev outPiece (v : View sg .tc .vmem S2048x128 .bf16) (v' : View sg .tc .vmem S256x2048 .bf16)
    (x : Vec Ideal S1x2048x64 .bf16) (L : List (View.Piece (Elt Ideal) S256x2048 .bf16)) (o : ℕ)
    (h : ∀ a, ![o, 0] a + S256x128.size a ≤ S2048x128.size a) (h' : ∀ a, ![0, o, 0] a + S1x256x64.size a ≤ S1x2048x64.size a) :
    View.Piece (Elt Ideal) S1x2048x64 .bf16 :=
  ⟨Rect.unit (s := S1x2048x64) ![0, o, 0] S1x256x64.size h',
   k0_pay9 (F := Ideal) (v'.readCov (scorePieces v x o h ++ L) (Rect.unit (s := S256x2048) ![0, 0] S256x2048.size inb_S256x2048_S256x2048_0_0).toLoadRect)
     (v.readCov (kvPieces x) (Rect.unit (s := S2048x128) ![0, 0] S2048x128.size inb_S2048x128_S2048x128_0_0).toLoadRect)⟩

/-- A block of queries is rows of the scratch. -/
theorem qRow_apply (v : View sg .tc .vmem S2048x128 .bf16) (x : Vec Ideal S1x2048x64 .bf16) (o : ℕ)
    (h : ∀ a, ![o, 0] a + S256x128.size a ≤ S2048x128.size a) (a : Fin 256) (j : Fin 128) (ho : o + a.val < 2048) :
    qRow v x o h (ix2 a j) = kvx x (ix2 ⟨o + a, ho⟩ j) := by
  unfold qRow
  rw [kv_read]
  refine (congrArg (kvx x) (emb_unit_ix2 _ a j)).trans ?_
  simp only [Nat.zero_add]

/-- A block of keys is rows of the scratch. -/
theorem kRow_apply (v : View sg .tc .vmem S2048x128 .bf16) (x : Vec Ideal S1x2048x64 .bf16) (o : ℕ)
    (h : ∀ a, ![o, 0] a + S512x128.size a ≤ S2048x128.size a) (a : Fin 512) (j : Fin 128) (ho : o + a.val < 2048) :
    kRow v x o h (ix2 a j) = kvx x (ix2 ⟨o + a, ho⟩ j) := by
  unfold kRow
  rw [kv_read]
  refine (congrArg (kvx x) (emb_unit_ix2 _ a j)).trans ?_
  simp only [Nat.zero_add]

/-- The scores of the queries `o … o + 255` against every row. -/
def scores (x : Vec Ideal S1x2048x64 .bf16) (o : ℕ) (ho : o + 256 ≤ 2048) : Vec Ideal S256x2048 .bf16 := fun j =>
  scoreAt (kvx x) (kvx x) ⟨o + (j 0).val, by have : (j 0).val < 256 := (j 0).isLt; omega⟩ (j 1)

/-- One store of scores is a block of `scores`. -/
theorem score_piece (v : View sg .tc .vmem S2048x128 .bf16) (x : Vec Ideal S1x2048x64 .bf16) (o p : ℕ)
    (h : ∀ a, ![o, 0] a + S256x128.size a ≤ S2048x128.size a) (ho : o + 256 ≤ 2048) (hp : p + 512 ≤ 2048)
    (h₁ : ∀ a, ![p, 0] a + S512x128.size a ≤ S2048x128.size a) (h₂ : ∀ a, ![0, p] a + S256x512.size a ≤ S256x2048.size a)
    (j : S256x512.Idx) :
    k0_pay5 (F := Ideal) (qRow v x o h) (kRow v x p h₁) j
      = scores x o ho ((Rect.unit (s := S256x2048) ![0, p] S256x512.size h₂).emb j) := by
  obtain ⟨a, b, rfl⟩ : ∃ (a : Fin 256) (b : Fin 512), j = ix2 a b := ⟨j 0, j 1, eq_ix2 j⟩
  refine (pay5_apply _ _ a b).trans (Eq.symm ((congrArg (scores x o ho) (emb_unit_ix2 _ a b)).trans ?_))
  simp only [Nat.zero_add]
  unfold scores scoreAt
  congr 1
  refine Finset.sum_congr rfl fun k _ => ?_
  rw [qRow_apply v x o h a k (by omega), kRow_apply v x p h₁ b k (by omega)]
  rfl

/-- What the scratch of scores reads back, whatever was stored before. -/
theorem scores_read (v : View sg .tc .vmem S2048x128 .bf16) (v' : View sg .tc .vmem S256x2048 .bf16)
    (x : Vec Ideal S1x2048x64 .bf16) (L : List (View.Piece (Elt Ideal) S256x2048 .bf16)) (o : ℕ)
    (h : ∀ a, ![o, 0] a + S256x128.size a ≤ S2048x128.size a) (ho : o + 256 ≤ 2048) :
    v'.readCov (scorePieces v x o h ++ L) (Rect.unit (s := S256x2048) ![0, 0] S256x2048.size inb_S256x2048_S256x2048_0_0).toLoadRect
      = scores x o ho := by
  have hc : View.canon (scorePieces v x o h ++ L) = scores x o ho := funext fun y =>
    View.canon_append_of_piecesOf (scores x o ho) L (scorePieces v x o h)
      ⟨score_piece v x o 1536 h ho (by omega) _ inb_S256x2048_S256x512_0_1536, score_piece v x o 1024 h ho (by omega) _ inb_S256x2048_S256x512_0_1024,
        score_piece v x o 512 h ho (by omega) _ inb_S256x2048_S256x512_0_512, score_piece v x o 0 h ho (by omega) _ inb_S256x2048_S256x512_0_0, trivial⟩ y
      (View.cover_of_tiledL (scorePieces v x o h) S256x512.size (by sl_kernel_rfl) y)
  rw [View.readCov_eq_canon', hc]
  exact View.ld_unit_lit _ _ (by intro a; fin_cases a <;> rfl)

/-! ## The output block -/

/-- Row `r`, column `d` of one head's output. -/
def attnAt (x : Vec Ideal S1x2048x64 .bf16) (r : Fin 2048) (d : Fin 64) : EReal :=
  (∑ k : Fin 2048, scoreAt (kvx x) (kvx x) r k * kvx x (ix2 k ⟨d, by omega⟩))
    * Ideal.div 1 (∑ k : Fin 2048, scoreAt (kvx x) (kvx x) r k * kvx x (ix2 k 64))

/-- One head's output block. -/
def attnBlock (x : Vec Ideal S1x2048x64 .bf16) : Vec Ideal S1x2048x64 .bf16 := fun j => attnAt x (j 1) (j 2)

/-- One output store is a block of `attnBlock`. -/
theorem out_piece (v : View sg .tc .vmem S2048x128 .bf16) (v' : View sg .tc .vmem S256x2048 .bf16)
    (x : Vec Ideal S1x2048x64 .bf16) (L : List (View.Piece (Elt Ideal) S256x2048 .bf16)) (o : ℕ)
    (h : ∀ a, ![o, 0] a + S256x128.size a ≤ S2048x128.size a) (h' : ∀ a, ![0, o, 0] a + S1x256x64.size a ≤ S1x2048x64.size a)
    (ho : o + 256 ≤ 2048) (j : S1x256x64.Idx) :
    (outPiece v v' x L o h h').2 j = attnBlock x ((outPiece v v' x L o h h').1.emb j) := by
  obtain ⟨z, a, d, rfl⟩ : ∃ (z : Fin 1) (a : Fin 256) (d : Fin 64), j = ix3 z a d := ⟨j 0, j 1, j 2, eq_ix3 j⟩
  obtain rfl : z = 0 := Subsingleton.elim _ _
  have hK : v.readCov (kvPieces x) (Rect.unit (s := S2048x128) ![0, 0] S2048x128.size inb_S2048x128_S2048x128_0_0).toLoadRect = kvx x := by
    rw [kv_read]; exact View.ld_unit_lit _ _ (by intro a; fin_cases a <;> rfl)
  refine (pay9_apply _ _ a d).trans (Eq.symm ((congrArg (attnBlock x) (emb_unit_ix3 h' 0 a d)).trans ?_))
  rw [scores_read v v' x L o h ho, hK]
  simp only [Nat.zero_add]
  rfl

/-- The eight output stores, the later first. -/
abbrev outPieces (v : View sg .tc .vmem S2048x128 .bf16) (v' : View sg .tc .vmem S256x2048 .bf16)
    (x : Vec Ideal S1x2048x64 .bf16) (L0 L1 L2 L3 L4 L5 L6 L7 : List (View.Piece (Elt Ideal) S256x2048 .bf16)) :
    List (View.Piece (Elt Ideal) S1x2048x64 .bf16) :=
  [outPiece v v' x L7 1792 inb_S2048x128_S256x128_1792_0 inb_S1x2048x64_S1x256x64_0_1792_0,
    outPiece v v' x L6 1536 inb_S2048x128_S256x128_1536_0 inb_S1x2048x64_S1x256x64_0_1536_0,
    outPiece v v' x L5 1280 inb_S2048x128_S256x128_1280_0 inb_S1x2048x64_S1x256x64_0_1280_0,
    outPiece v v' x L4 1024 inb_S2048x128_S256x128_1024_0 inb_S1x2048x64_S1x256x64_0_1024_0,
    outPiece v v' x L3 768 inb_S2048x128_S256x128_768_0 inb_S1x2048x64_S1x256x64_0_768_0,
    outPiece v v' x L2 512 inb_S2048x128_S256x128_512_0 inb_S1x2048x64_S1x256x64_0_512_0,
    outPiece v v' x L1 256 inb_S2048x128_S256x128_256_0 inb_S1x2048x64_S1x256x64_0_256_0,
    outPiece v v' x L0 0 inb_S2048x128_S256x128_0_0 inb_S1x2048x64_S1x256x64_0_0_0]

/-- The output stores together are `attnBlock`. -/
theorem outPieces_canon (v : View sg .tc .vmem S2048x128 .bf16) (v' : View sg .tc .vmem S256x2048 .bf16)
    (x : Vec Ideal S1x2048x64 .bf16) (L0 L1 L2 L3 L4 L5 L6 L7 : List (View.Piece (Elt Ideal) S256x2048 .bf16)) (y : S1x2048x64.Idx)
    (hy : ∃ p ∈ outPieces v v' x L0 L1 L2 L3 L4 L5 L6 L7, y ∈ p.1.set) :
    View.canon (outPieces v v' x L0 L1 L2 L3 L4 L5 L6 L7) y = attnBlock x y :=
  View.canon_append_of_piecesOf (attnBlock x) [] (outPieces v v' x L0 L1 L2 L3 L4 L5 L6 L7)
    ⟨out_piece _ _ x L7 1792 _ _ (by omega), out_piece _ _ x L6 1536 _ _ (by omega),
      out_piece _ _ x L5 1280 _ _ (by omega), out_piece _ _ x L4 1024 _ _ (by omega),
      out_piece _ _ x L3 768 _ _ (by omega), out_piece _ _ x L2 512 _ _ (by omega),
      out_piece _ _ x L1 256 _ _ (by omega), out_piece _ _ x L0 0 _ _ (by omega), trivial⟩ y hy

variable (c : Dev nD) (i : grid0.Coords) (arg2 : Memref sig .tc .vmem S1x2048x64 .bf16) (harg2 : arg2.IsWhole) (arg3 : Memref sig .tc .vmem S1x2048x64 .bf16) (harg3 : arg3.IsWhole) (arg4 : Memref sig .tc .vmem S2048x128 .bf16) (harg4 : arg4.IsWhole) (arg5 : Memref sig .tc .vmem S256x2048 .bf16) (harg5 : arg5.IsWhole) (x0 : Vec Ideal S1x2048x64 .bf16)

set_option maxHeartbeats 4000000 in
/-- The body's eight output stores. -/
theorem pieces_eq : ∃ L0 L1 L2 L3 L4 L5 L6 L7,
    (kernelRun0_A (F := Ideal) c i arg2 harg2 arg3 harg3 arg4 harg4 arg5 harg5 x0).1
    = outPieces arg4.view arg5.view x0 L0 L1 L2 L3 L4 L5 L6 L7 := by
  have hx : View.readAt (Elt Ideal) arg2.view (Rect.unit ![0, 0, 0] S1x2048x64.size inb_S1x2048x64_S1x2048x64_0_0_0).toLoadRect
      (harg2.unread x0) = x0 := by
    rw [View.readAt_eq_ld, harg2.read_unread]
    exact View.ld_unit_lit _ _ (by intro a; fin_cases a <;> rfl)
  unfold kernelRun0_A
  dsimp only
  sl_unfold_words
  rw [hx]
  exact ⟨_, _, _, _, _, _, _, _, rfl⟩

/-- The body leaves `attnBlock` of its input block in its output block. -/
theorem out0_eq : out0_A_1 (F := Ideal) c i arg2 harg2 arg3 harg3 arg4 harg4 arg5 harg5 x0 = attnBlock x0 := by
  obtain ⟨L0, L1, L2, L3, L4, L5, L6, L7, hL⟩ := pieces_eq c i arg2 harg2 arg3 harg3 arg4 harg4 arg5 harg5 x0
  have hcov := cover0_A_1 (F := Ideal) c i arg2 harg2 arg3 harg3 arg4 harg4 arg5 harg5 x0
  unfold out0_A_1
  rw [View.read_writes_junk_eq_canon]
  funext y
  have hy := hcov y
  rw [hL] at hy ⊢
  exact outPieces_canon _ _ x0 L0 L1 L2 L3 L4 L5 L6 L7 y hy

end Cert.TailIdeal.Value

end
-- ==== Proof.Softmax.lean ====
/-
  The softmax's equation, over reals: the exponentials `2 ^ (c t + c)` (`c` an eighth over `log 2`), their products with
  the rows over their sum, are the exponentials of the scaled scores less any real, each over their sum, times the rows.
-/
module

public import proofs.«01_k».proof.Proof.AttnBlock

@[expose] public section

set_option maxRecDepth 16384

noncomputable section

namespace Cert.TailIdeal.Value

open Cert.TailIdeal Cert.TailIdeal.Gen
open Idealize.ShloMosaic Idealize.ShloMosaic.TcCoe Idealize.SL.Sem

/-- A sum of reals is a real. -/
theorem coe_sum {ι : Type} (S : Finset ι) (f : ι → ℝ) : (∑ i ∈ S, (f i : EReal)) = ((∑ i ∈ S, f i : ℝ) : EReal) := by
  classical
  induction S using Finset.induction_on with
  | empty => simp
  | insert i S hi ih => rw [Finset.sum_insert hi, Finset.sum_insert hi, ih, EReal.coe_add]

/-- Two rows' product. -/
def dotR (f : Fin 2048 → Fin 64 → ℝ) (r k : Fin 2048) : ℝ := ∑ x : Fin 64, f r x * f k x

/-- A row of the scratch, of reals. -/
def rowR (f : Fin 2048 → Fin 64 → ℝ) (r : Fin 2048) (j : Fin (64 + 64)) : ℝ :=
  Fin.addCases (fun x => f r x) (fun x => if x = 0 then 1 else 0) j

theorem kvx_real (x : Vec Ideal S1x2048x64 .bf16) (f : Fin 2048 → Fin 64 → ℝ) (hf : ∀ r d, x (ix3 0 r d) = (f r d : EReal))
    (r : Fin 2048) (j : Fin (64 + 64)) : kvx x (ix2 r (j : Fin 128)) = (rowR f r j : EReal) := by
  refine Fin.addCases (fun d => ?_) (fun d => ?_) j
  · unfold rowR
    rw [Fin.addCases_left, ← hf]
    exact kvx_row x r d _
  · unfold rowR
    rw [Fin.addCases_right]
    refine (kvx_tail x r d.val (by omega)).trans ?_
    by_cases h : d = 0
    · subst h; simp
    · have h' : ¬ d.val = 0 := fun e => h (Fin.ext e)
      rw [if_neg h, if_neg h']; rfl

/-- A score is the exponential of an eighth of the rows' product and one. -/
theorem scoreAt_real (x : Vec Ideal S1x2048x64 .bf16) (f : Fin 2048 → Fin 64 → ℝ) (hf : ∀ r d, x (ix3 0 r d) = (f r d : EReal))
    (r k : Fin 2048) : scoreAt (kvx x) (kvx x) r k = ((Real.exp (dotR f r k / 8 + 1 / 8) : ℝ) : EReal) := by
  have hs : (∑ j : Fin 128, kvx x (ix2 r j) * scale * kvx x (ix2 k j))
      = ((∑ j : Fin (64 + 64), rowR f r j * (8⁻¹ * (Real.log 2)⁻¹) * rowR f k j : ℝ) : EReal) := by
    rw [← coe_sum]
    refine Finset.sum_congr rfl fun j _ => ?_
    rw [kvx_real x f hf r j, kvx_real x f hf k j, EReal.coe_mul, EReal.coe_mul]
    rfl
  have hr : (∑ j : Fin (64 + 64), rowR f r j * (8⁻¹ * (Real.log 2)⁻¹) * rowR f k j)
      = (dotR f r k + 1) * (8⁻¹ * (Real.log 2)⁻¹) := by
    rw [Fin.sum_univ_add]
    unfold rowR
    simp only [Fin.addCases_left, Fin.addCases_right]
    rw [add_mul]
    congr 1
    · unfold dotR
      rw [Finset.sum_mul]
      exact Finset.sum_congr rfl fun j _ => by ring
    · rw [Finset.sum_eq_single 0 (fun j _ hj => by simp [hj]) (fun h => absurd (Finset.mem_univ _) h)]
      simp
  unfold scoreAt
  rw [hs, hr, Ideal.exp2_coe]
  congr 1
  refine (Real.rpow_def_of_pos (by norm_num : (0 : ℝ) < 2) _).trans ?_
  congr 1
  have : Real.log 2 ≠ 0 := (Real.log_pos (by norm_num)).ne'
  field_simp

/-- One head's output row, over reals. -/
def softR (f : Fin 2048 → Fin 64 → ℝ) (r : Fin 2048) (d : Fin 64) : ℝ :=
  (∑ k, Real.exp (dotR f r k / 8) * f k d) / ∑ k, Real.exp (dotR f r k / 8)

theorem sum_exp_pos (t : Fin 2048 → ℝ) : 0 < ∑ k, Real.exp (t k) :=
  Finset.sum_pos (fun k _ => Real.exp_pos _) Finset.univ_nonempty

/-- The body's row. -/
theorem attnAt_real (x : Vec Ideal S1x2048x64 .bf16) (f : Fin 2048 → Fin 64 → ℝ) (hf : ∀ r d, x (ix3 0 r d) = (f r d : EReal))
    (r : Fin 2048) (d : Fin 64) : attnAt x r d = (softR f r d : EReal) := by
  have h1 : (∑ k : Fin 2048, scoreAt (kvx x) (kvx x) r k * kvx x (ix2 k ⟨d, by omega⟩))
      = ((∑ k, Real.exp (dotR f r k / 8 + 1 / 8) * f k d : ℝ) : EReal) := by
    rw [← coe_sum]
    refine Finset.sum_congr rfl fun k _ => ?_
    rw [scoreAt_real x f hf, kvx_row, hf, EReal.coe_mul]
  have h2 : (∑ k : Fin 2048, scoreAt (kvx x) (kvx x) r k * kvx x (ix2 k 64))
      = ((∑ k, Real.exp (dotR f r k / 8 + 1 / 8) : ℝ) : EReal) := by
    rw [← coe_sum]
    refine Finset.sum_congr rfl fun k _ => ?_
    have e : kvx x (ix2 k 64) = 1 := (kvx_tail x k 0 (by omega)).trans (if_pos rfl)
    rw [scoreAt_real x f hf, e, mul_one]
  have hp := sum_exp_pos fun k => dotR f r k / 8 + 1 / 8
  unfold attnAt
  rw [h1, h2, Ideal.div_coe hp.ne', one_mul, ← EReal.coe_mul]
  congr 1
  unfold softR
  have e1 : (∑ k, Real.exp (dotR f r k / 8 + 1 / 8) * f k d) = Real.exp (1 / 8) * ∑ k, Real.exp (dotR f r k / 8) * f k d := by
    rw [Finset.mul_sum]
    exact Finset.sum_congr rfl fun k _ => by rw [Real.exp_add]; ring
  have e2 : (∑ k, Real.exp (dotR f r k / 8 + 1 / 8)) = Real.exp (1 / 8) * ∑ k, Real.exp (dotR f r k / 8) := by
    rw [Finset.mul_sum]
    exact Finset.sum_congr rfl fun k _ => by rw [Real.exp_add]; ring
  have hq := sum_exp_pos fun k => dotR f r k / 8
  have hg := Real.exp_pos (1 / 8)
  rw [e1, e2]
  field_simp

/-- The reference's row, the exponentials taken less any real `M`. -/
theorem soft_shift (f : Fin 2048 → Fin 64 → ℝ) (M : ℝ) (r : Fin 2048) (d : Fin 64) :
    (∑ k, Ideal.div (Ideal.exp (((dotR f r k / 8 : ℝ) : EReal) - (M : EReal)))
        (∑ k, Ideal.exp (((dotR f r k / 8 : ℝ) : EReal) - (M : EReal))) * (f k d : EReal)) = (softR f r d : EReal) := by
  have h0 : ∀ k, Ideal.exp (((dotR f r k / 8 : ℝ) : EReal) - (M : EReal)) = ((Real.exp (dotR f r k / 8 - M) : ℝ) : EReal) := by
    intro k
    rw [← EReal.coe_sub, Ideal.exp_coe]
  have hp := sum_exp_pos fun k => dotR f r k / 8 - M
  simp only [h0, coe_sum]
  have h1 : ∀ k, Ideal.div ((Real.exp (dotR f r k / 8 - M) : ℝ) : EReal) ((∑ k, Real.exp (dotR f r k / 8 - M) : ℝ) : EReal) * (f k d : EReal)
      = ((Real.exp (dotR f r k / 8 - M) * (1 / ∑ k, Real.exp (dotR f r k / 8 - M)) * f k d : ℝ) : EReal) := by
    intro k
    rw [Ideal.div_coe hp.ne', EReal.coe_mul, EReal.coe_mul]
  simp only [h1, coe_sum]
  congr 1
  unfold softR
  have e2 : (∑ k, Real.exp (dotR f r k / 8 - M)) = Real.exp (-M) * ∑ k, Real.exp (dotR f r k / 8) := by
    rw [Finset.mul_sum]
    exact Finset.sum_congr rfl fun k _ => by rw [sub_eq_add_neg, Real.exp_add]; ring
  have hq := sum_exp_pos fun k => dotR f r k / 8
  have hg := Real.exp_pos (-M)
  rw [e2, Finset.sum_div]
  refine Finset.sum_congr rfl fun k _ => ?_
  rw [sub_eq_add_neg, Real.exp_add]
  field_simp

end Cert.TailIdeal.Value

end
-- ==== Proof.AttnArray.lean ====
/- What the attention's pipeline leaves in its result array: every head's block, from the array of all heads' rows. -/
module

public import proofs.«01_k».proof.Proof.AttnBlock
public import Idealize.ShloMosaic.Lib.Pipeline.Value

@[expose] public section

set_option maxRecDepth 16384

noncomputable section

namespace Cert.TailIdeal.Value

open Cert.TailIdeal Cert.TailIdeal.Gen
open Idealize.ShloMosaic Idealize.ShloMosaic.TcCoe Idealize.SL.Sem
open Idealize.ShloMosaic.Pipeline (Dat)

/-- One head's rows. -/
def headBlock (X : Vec Ideal S64x2048x64 .bf16) (g : Fin 64) : Vec Ideal S1x2048x64 .bf16 := fun j => X (ix3 g (j 1) (j 2))

/-- All heads' outputs. -/
def attnArr (X : Vec Ideal S64x2048x64 .bf16) : Vec Ideal S64x2048x64 .bf16 := fun j =>
  attnAt (headBlock X (j 0)) (j 1) (j 2)

/-- Point `t` reads and writes head `t`. -/
theorem idx0 : ∀ t : Fin cfg0.N, win0_0.index t = ![t.val, 0, 0] ∧ win0_1.index t = ![t.val, 0, 0] := by decide +kernel

variable (V : (c : Dev nD) → (b : Ref sig .tc) → Buf (Elt Ideal) ((c : Thread nD τ).loc b))

/-- The block of rows read at point `t`. -/
theorem iblk0_eq (c : Dev nD) (t : Fin cfg0.N) : iblk0 V c 0 t = headBlock (V c main_v0) ⟨t.val, t.isLt⟩ := by
  funext y
  blk_ext [iblk0, headBlock, idx0 t]

theorem attn_array (c : Dev nD) : (dat0 V c).arrAt 1 cfg0.N = attnArr (V c main_v0) := by
  refine (dat0 V c).arrAt_eq_of_covers 1 _ (by decide +kernel) fun t hf y => ?_
  blk_simp
  rw [after0_1]
  unfold outsAt0
  rw [out0_eq, iblk0_eq]
  have e : (win0_1.blk t).view.emb y = ix3 ⟨t.val, t.isLt⟩ (y 1) (y 2) := by blk_ext [idx0 t]
  rw [e]
  rfl

end Cert.TailIdeal.Value

end
-- ==== Proof.ProjBlock.lean ====
/- What the projection body leaves in its output block. -/
module

public import proofs.«01_k».proof.Proof.Gen.TailIdeal.Frame
public import Idealize.ShloMosaic.Lib.Pointwise
public import Idealize.ShloMosaic.Lib.Pipeline.ValueKit
public import Idealize.ShloMosaic.Lib.Pipeline.Value

@[expose] public section

set_option maxRecDepth 16384

noncomputable section

namespace Cert.TailIdeal.Value

open Cert.TailIdeal Cert.TailIdeal.Gen
open Idealize.ShloMosaic Idealize.ShloMosaic.TcCoe Idealize.SL.Sem

theorem pay12_apply (v : FVec Ideal S512x1024 .bf16) (w : Vec Ideal S1024x1024 .bf16) (b : Vec Ideal S1x1024 .f32) (a : Fin 512) (j : Fin 1024) :
    k1_pay2 (F := Ideal) v w b (ix3 0 a j) = (∑ x : Fin 1024, v (ix2 a x) * w (ix2 x j)) + b (ix2 0 j) := by
  unfold k1_pay2
  pointwise

/-- The 16 heads of a row side by side. -/
def heads (x0 : Vec Ideal S1x16x512x64 .bf16) : FVec Ideal S512x1024 .bf16 :=
  k1_pay1 (k1_pay3 (View.ld x0 r1_0)) (k1_pay4 (View.ld x0 r1_1)) (k1_pay5 (View.ld x0 r1_2)) (k1_pay6 (View.ld x0 r1_3)) (k1_pay7 (View.ld x0 r1_4)) (k1_pay8 (View.ld x0 r1_5)) (k1_pay9 (View.ld x0 r1_6)) (k1_pay10 (View.ld x0 r1_7)) (k1_pay11 (View.ld x0 r1_8)) (View.ld x0 r1_9) (View.ld x0 r1_10) (View.ld x0 r1_11) (View.ld x0 r1_12) (View.ld x0 r1_13) (View.ld x0 r1_14) (View.ld x0 r1_15)

/-- Head `n`'s rows, as one of the pieces. -/
def headPiece (x0 : Vec Ideal S1x16x512x64 .bf16) (n : Fin 16) : FVec Ideal S512x64 .bf16 :=
  shapeCast S512x64 (View.ld x0 (Rect.unit (s := S1x16x512x64) ![0, n.val, 0, 0] S1x1x512x64.size
    (by intro a; fin_cases a <;> simp <;> omega))) shapeCasts_S1x1x512x64_S512x64

theorem cast_apply (v : Vec Ideal S1x1x512x64 .bf16) (a : Fin 512) (d : Fin 64) :
    shapeCast S512x64 v shapeCasts_S1x1x512x64_S512x64 (ix2 a d) = v (ix4 0 0 a d) := by
  pointwise

theorem headPiece_apply (x0 : Vec Ideal S1x16x512x64 .bf16) (n : Fin 16) (a : Fin 512) (d : Fin 64) :
    headPiece x0 n (ix2 a d) = x0 (ix4 0 n a d) := by
  unfold headPiece
  rw [cast_apply]
  refine congrArg x0 (funext fun k => ?_)
  match k with
  | ⟨0, _⟩ => exact Fin.ext (by simp [ix4])
  | ⟨1, _⟩ => exact Fin.ext (by simp [ix4])
  | ⟨2, _⟩ => exact Fin.ext (by simp [ix4])
  | ⟨3, _⟩ => exact Fin.ext (by simp [ix4])

/-- The body's concatenation is that of the pieces as a family. -/
theorem heads_eq (x0 : Vec Ideal S1x16x512x64 .bf16) :
    heads x0 = concatenate S512x1024 1 (List.ofFn fun n : Fin 16 => (⟨S512x64, headPiece x0 n⟩ : (s : Shape) × (s.Idx → EReal)))
      concatenates_S512x64_S512x64_S512x64_S512x64_S512x64_S512x64_S512x64_S512x64_S512x64_S512x64_S512x64_S512x64_S512x64_S512x64_S512x64_S512x64_S512x1024_d1 := rfl

theorem heads_apply (x0 : Vec Ideal S1x16x512x64 .bf16) (a : Fin 512) (h : Fin 16) (d : Fin 64) :
    heads x0 (ix2 a ⟨h.val * 64 + d.val, by omega⟩) = x0 (ix4 0 h a d) := by
  rw [heads_eq]
  refine (concatenate_ofFn_apply (t := S512x1024) (s₁ := S512x64) 1 (fun n => headPiece x0 n) _ rfl 64 rfl _ h ?_ (ix2 a d) ?_ ?_).trans (headPiece_apply x0 h a d)
  · show (h.val * 64 + d.val) / 64 = h.val
    omega
  · show d.val = (h.val * 64 + d.val) % 64
    omega
  · intro b hb
    match b with
    | ⟨0, _⟩ => rfl
    | ⟨1, _⟩ => exact absurd rfl hb

/-- The same at a column of the row, which head `x / 64` holds at its column `x % 64`. -/
theorem heads_col (x0 : Vec Ideal S1x16x512x64 .bf16) (a : Fin 512) (x : Fin 1024) :
    heads x0 (ix2 a x) = x0 (ix4 0 ⟨x.val / 64, by omega⟩ a ⟨x.val % 64, by omega⟩) := by
  rw [← heads_apply x0 a ⟨x.val / 64, by omega⟩ ⟨x.val % 64, by omega⟩]
  exact congrArg (fun k => heads x0 (ix2 a k)) (Fin.ext (by simp; omega))

/-- The output block: every row's heads side by side, times the weights, and the bias. -/
theorem out1_apply (x0 : Vec Ideal S1x16x512x64 .bf16) (x1 : Vec Ideal S1024x1024 .bf16) (x2 : Vec Ideal S1x1024 .f32)
    (a : Fin 512) (j : Fin 1024) :
    out1_3 (F := Ideal) x0 x1 x2 (ix3 0 a j)
      = (∑ x : Fin 1024, x0 (ix4 0 ⟨x.val / 64, by omega⟩ a ⟨x.val % 64, by omega⟩) * x1 (ix2 x j)) + x2 (ix2 0 j) := by
  unfold out1_3
  rw [View.canon_cons_unit_lit _ _ _ (by intro a; fin_cases a <;> rfl),
    View.ld_unit_lit (S := S1024x1024) _ x1 (by intro a; fin_cases a <;> rfl),
    View.ld_unit_lit (S := S1x1024) _ x2 (by intro a; fin_cases a <;> rfl)]
  refine (pay12_apply (heads x0) x1 x2 a j).trans ?_
  simp only [heads_col]

end Cert.TailIdeal.Value

end
-- ==== Proof.ProjArray.lean ====
/- What the projection's pipeline leaves in its result array. -/
module

public import proofs.«01_k».proof.Proof.ProjBlock
public import Idealize.ShloMosaic.Lib.Pipeline.Value

@[expose] public section

set_option maxRecDepth 16384

noncomputable section

namespace Cert.TailIdeal.Value

open Cert.TailIdeal Cert.TailIdeal.Gen
open Idealize.ShloMosaic Idealize.ShloMosaic.TcCoe Idealize.SL.Sem
open Idealize.ShloMosaic.Pipeline (Dat)

/-- Row `s` of batch `b`, its heads side by side, times column `j` of the weights, and the bias. -/
def projAt (A : Vec Ideal S4x16x2048x64 .bf16) (W : Vec Ideal S1024x1024 .bf16) (B : Vec Ideal S1x1024 .f32)
    (b : Fin 4) (s : Fin 2048) (j : Fin 1024) : EReal :=
  (∑ x : Fin 1024, A (ix4 b ⟨x.val / 64, by omega⟩ s ⟨x.val % 64, by omega⟩) * W (ix2 x j)) + B (ix2 0 j)

/-- The projection of the whole array. -/
def projArr (A : Vec Ideal S4x16x2048x64 .bf16) (W : Vec Ideal S1024x1024 .bf16) (B : Vec Ideal S1x1024 .f32) :
    Vec Ideal S4x2048x1024 .f32 := fun j => projAt A W B (j 0) (j 1) (j 2)

/-- Point `t` is batch `t / 4`, rows `512 (t % 4) …`. -/
theorem idx1 : ∀ t : Fin cfg1.N, win1_0.index t = ![t.val / 4, 0, t.val % 4, 0] ∧ win1_1.index t = ![0, 0]
    ∧ win1_2.index t = ![0, 0] ∧ win1_3.index t = ![t.val / 4, t.val % 4, 0] := by decide +kernel

variable (V : (c : Dev nD) → (b : Ref sig .tc) → Buf (Elt Ideal) ((c : Thread nD τ).loc b))

theorem point_lt (t : Fin cfg1.N) : t.val < 16 := t.isLt

theorem iblk1_0_apply (c : Dev nD) (t : Fin cfg1.N) (h : Fin 16) (a : Fin 512) (d : Fin 64) :
    (iblk1 V c 0 t : Vec Ideal S1x16x512x64 .bf16) (ix4 0 h a d)
      = (V c main_v2 : Vec Ideal S4x16x2048x64 .bf16) (ix4 ⟨t.val / 4, by have := point_lt t; omega⟩ h ⟨t.val % 4 * 512 + a.val, by omega⟩ d) := by
  blk_ext [iblk1, idx1 t]

theorem iblk1_1_eq (c : Dev nD) (t : Fin cfg1.N) : (iblk1 V c 1 t : Vec Ideal S1024x1024 .bf16) = V c main_v4 := by
  funext y
  blk_ext [iblk1, idx1 t]

theorem iblk1_2_eq (c : Dev nD) (t : Fin cfg1.N) : (iblk1 V c 2 t : Vec Ideal S1x1024 .f32) = V c main_v5 := by
  funext y
  blk_ext [iblk1, idx1 t]

theorem proj_array (c : Dev nD) : (dat1 V c).arrAt 3 cfg1.N = projArr (V c main_v2) (V c main_v4) (V c main_v5) := by
  refine (dat1 V c).arrAt_eq_of_covers 3 _ (by decide +kernel) fun t hf y => ?_
  blk_simp
  rw [after1_3]
  have ht := point_lt t
  obtain ⟨z, a, j, rfl⟩ : ∃ (z : Fin 1) (a : Fin 512) (j : Fin 1024), y = ix3 z a j := ⟨y 0, y 1, y 2, eq_ix3 y⟩
  obtain rfl : z = 0 := Subsingleton.elim _ _
  have e : (win1_3.blk t).view.emb (ix3 0 a j)
      = ix3 ⟨t.val / 4, by omega⟩ ⟨t.val % 4 * 512 + a.val, by omega⟩ j := by blk_ext [idx1 t]
  rw [e]
  refine (out1_apply _ _ _ a j).trans ?_
  rw [iblk1_1_eq, iblk1_2_eq]
  simp only [iblk1_0_apply]
  rfl

end Cert.TailIdeal.Value

end
-- ==== Proof.TailRun.lean ====
/-
  The run of `TailIdeal` with its result: the generated frame's launch, read at one more buffer. Every execution ends
  with the result array holding what the projection's pipeline left in it, and the argument arrays as they were.
-/
module

public import proofs.«01_k».proof.Proof.Gen.TailIdeal.Frame

@[expose] public section

set_option maxRecDepth 16384

noncomputable section

namespace Cert.TailIdeal.Value

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at what the second pipeline wrote, the arguments unchanged. -/
theorem run : θ_run defs (onTc (τ := τ) (main (F := F))) ⟨m, fun _ => 0, ρ⟩ (fun r => ∀ c : Dev nD,
      r.2.mem ((c.tc : Thread nD τ).loc main_v6) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v6 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.TailIdeal.Value

end
-- ==== Proof.TailValue.lean ====
/- The result of `TailIdeal` at an index, from its arguments. -/
module

public import proofs.«01_k».proof.Proof.AttnArray
public import proofs.«01_k».proof.Proof.ProjArray
public import proofs.«01_k».proof.Proof.TailRun
public import Idealize.ShloMosaic.Lib.StableHlo.Run
public import Idealize.ShloMosaic.Lib.Pointwise

@[expose] public section

set_option maxRecDepth 16384

noncomputable section

namespace Cert.TailIdeal.Value

open Cert.TailIdeal Cert.TailIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem entry0 (c : Dev nD) : V1 m ρ c main_v0
    = shapeCast S64x2048x64 (m ((c.tc : Thread nD τ).loc main_arg0) : Vec Ideal S4x16x2048x64 .bf16) shapeCasts_S4x16x2048x64_S64x2048x64 := by
  show StableHlo.after hostOps0 (W0 m ρ c) (Proc.devRef .tc main_v0) = _
  unfold hostOps0
  after_results <;> rfl

theorem entry1 (c : Dev nD) : V3 m ρ c main_v2
    = shapeCast S4x16x2048x64 ((dat0 (V1 m ρ) c).arrAt 1 cfg0.N : Vec Ideal S64x2048x64 .bf16) shapeCasts_S64x2048x64_S4x16x2048x64 := by
  rw [← W2_arr m ρ c 1]
  show StableHlo.after hostOps1 (W2 m ρ c) (Proc.devRef .tc main_v2) = _
  unfold hostOps1
  after_results <;> rfl

theorem entry2 (c : Dev nD) : V3 m ρ c main_v4
    = (truncf .bf16 (transpose S1024x1024 [1, 0] (m ((c.tc : Thread nD τ).loc main_arg1) : FVec Ideal S1024x1024 .f32) transposes_S1024x1024_S1024x1024_1_0) bitsLt_bf16_f32 : FVec Ideal S1024x1024 .bf16) := by
  rw [← W2_args m ρ c main_arg1 (by decide)]
  show StableHlo.after hostOps1 (W2 m ρ c) (Proc.devRef .tc main_v4) = _
  unfold hostOps1
  after_results <;> rfl

theorem entry3 (c : Dev nD) : V3 m ρ c main_v5
    = shapeCast S1x1024 (m ((c.tc : Thread nD τ).loc main_arg2) : Vec Ideal S1024 .f32) shapeCasts_S1024_S1x1024 := by
  rw [← W2_args m ρ c main_arg2 (by decide)]
  show StableHlo.after hostOps1 (W2 m ρ c) (Proc.devRef .tc main_v5) = _
  unfold hostOps1
  after_results <;> rfl

/-- One head of one batch. -/
def headRows (A : FVec Ideal S4x16x2048x64 .bf16) (b : Fin 4) (h : Fin 16) : Vec Ideal S1x2048x64 .bf16 := fun j => A (ix4 b h (j 1) (j 2))

/-- The heads taken apart by batch. -/
theorem split_apply (X : FVec Ideal S64x2048x64 .bf16) (b : Fin 4) (h : Fin 16) (r : Fin 2048) (d : Fin 64) :
    shapeCast S4x16x2048x64 X shapeCasts_S64x2048x64_S4x16x2048x64 (ix4 b h r d) = X (ix3 ⟨b.val * 16 + h.val, by omega⟩ r d) := by
  pointwise

/-- The batches' heads in one list. -/
theorem merge_apply (A : FVec Ideal S4x16x2048x64 .bf16) (b : Fin 4) (h : Fin 16) (r : Fin 2048) (d : Fin 64) :
    shapeCast S64x2048x64 A shapeCasts_S4x16x2048x64_S64x2048x64 (ix3 ⟨b.val * 16 + h.val, by omega⟩ r d) = A (ix4 b h r d) := by
  pointwise

theorem headBlock_merge (A : FVec Ideal S4x16x2048x64 .bf16) (b : Fin 4) (h : Fin 16) :
    headBlock (shapeCast S64x2048x64 A shapeCasts_S4x16x2048x64_S64x2048x64) ⟨b.val * 16 + h.val, by omega⟩ = headRows A b h :=
  funext fun j => merge_apply A b h (j 1) (j 2)

theorem weight_apply (w : FVec Ideal S1024x1024 .f32) (x j : Fin 1024) :
    (truncf .bf16 (transpose S1024x1024 [1, 0] w transposes_S1024x1024_S1024x1024_1_0) bitsLt_bf16_f32 : FVec Ideal S1024x1024 .bf16) (ix2 x j)
      = w (ix2 j x) := by
  pointwise

theorem bias_apply (v : FVec Ideal S1024 .f32) (j : Fin 1024) :
    shapeCast S1x1024 v shapeCasts_S1024_S1x1024 (ix2 0 j) = v (ix1 j) := by
  pointwise

/-- The result at batch `b`, row `s`, column `j`. -/
theorem tail_at (c : Dev nD) (b : Fin 4) (s : Fin 2048) (j : Fin 1024) :
    ((dat1 (V3 m ρ) c).arrAt 3 cfg1.N : FVec Ideal S4x2048x1024 .f32) (ix3 b s j)
      = (∑ x : Fin 1024, attnAt (headRows (m ((c.tc : Thread nD τ).loc main_arg0)) b ⟨x.val / 64, by omega⟩) s ⟨x.val % 64, by omega⟩
          * (m ((c.tc : Thread nD τ).loc main_arg1) : FVec Ideal S1024x1024 .f32) (ix2 j x))
        + (m ((c.tc : Thread nD τ).loc main_arg2) : FVec Ideal S1024 .f32) (ix1 j) := by
  rw [proj_array, entry1, entry2, entry3, attn_array, entry0]
  show projAt _ _ _ b s j = _
  unfold projAt
  refine congrArg₂ _ (Finset.sum_congr rfl fun x _ => ?_) (bias_apply _ j)
  refine congrArg₂ _ ?_ (weight_apply _ x j)
  refine (split_apply _ b _ s _).trans ?_
  rw [← headBlock_merge]
  rfl

end Cert.TailIdeal.Value

end
-- ==== Proof.RefValue.lean ====
/- What the reference leaves in its result array, at an index. -/
module

public import proofs.«01_k».proof.Proof.Gen.TailReferenceIdeal.Run
public import Idealize.ShloMosaic.Lib.Pointwise

@[expose] public section

set_option maxRecDepth 16384

noncomputable section

namespace Cert.TailReferenceIdeal.Value

open Cert.TailReferenceIdeal Cert.TailReferenceIdeal.Gen
open Idealize.ShloMosaic Idealize.ShloMosaic.TcCoe Idealize.SL.Sem

/-- The scores, scaled. -/
def scoresA (q : FVec Ideal S4x16x2048x64 .bf16) : FVec Ideal S4x16x2048x2048 .f32 :=
  mulf (Host.dotGeneral dot_S4x16x2048x64_S4x16x2048x64_S4x16x2048x2048_3_3_2_2_01_01 none
    (extf .f32 q bitsLt_bf16_f32 : FVec Ideal S4x16x2048x64 .f32) (extf .f32 q bitsLt_bf16_f32 : FVec Ideal S4x16x2048x64 .f32))
    (broadcastInDim S4x16x2048x2048 ![] bcast_S_S4x16x2048x2048 (constant S_ .f32 0x3E000000#32))

theorem eighth : Ideal.ofBits FTy.f32 1040187392#32 = ((1 / 8 : ℝ) : EReal) := by
  simp [Ideal.ofBits, Ideal.ieee, -EReal.coe_mul]
  norm_num

theorem scoresA_apply (q : FVec Ideal S4x16x2048x64 .bf16) (b : Fin 4) (h : Fin 16) (r k : Fin 2048) :
    scoresA q (ix4 b h r k) = (∑ x, q (ix4 b h r x) * q (ix4 b h k x)) * ((1 / 8 : ℝ) : EReal) := by
  rw [← eighth]
  unfold scoresA
  pointwise

/-- The largest score of every row. -/
def maxA (s : FVec Ideal S4x16x2048x2048 .f32) : FVec Ideal S4x16x2048 .f32 :=
  maximumf (broadcastInDim S4x16x2048 ![] bcast_S_S4x16x2048 (constant S_ .f32 0xFF800000#32))
    (Host.reduce (FloatOps.maximumf (F := Ideal) (φ := .f32)) s (constant (F := Ideal) S_ .f32 0xFF800000#32) reducesTo_S4x16x2048x2048_S4x16x2048_d3 h_S_)

theorem negInf : Ideal.ofBits FTy.f32 0xFF800000#32 = ⊥ := by
  simp [Ideal.ofBits, Ideal.ieee]

/-- The largest of finitely many reals, from minus infinity, is a real, if there is one. -/
theorem fold_max_real {ι : Type} (S : Finset ι) (f : ι → EReal) (hf : ∀ i, ∃ r : ℝ, f i = r) :
    (S = ∅ ∧ S.fold max ⊥ f = ⊥) ∨ ∃ r : ℝ, S.fold max ⊥ f = r := by
  classical
  induction S using Finset.induction_on with
  | empty => exact Or.inl ⟨rfl, rfl⟩
  | insert i S hi ih =>
    right
    obtain ⟨r, hr⟩ := hf i
    rw [Finset.fold_insert hi, hr]
    rcases ih with ⟨-, e⟩ | ⟨r', e⟩
    · exact ⟨r, by rw [e]; exact max_eq_left bot_le⟩
    · exact ⟨max r r', by rw [e]; exact (EReal.coe_strictMono.monotone.map_max).symm⟩

/-- A host maximum over one axis of reals, from minus infinity, is a real. -/
theorem hostMax_real {s t u : Shape} {a : Fin s.rank} (x : s.Idx → EReal) (hx : ∀ i, ∃ r : ℝ, x i = r) (init : u.Idx → EReal)
    (h' : s.ReducesTo [a] t) (h : s.Reduces [a] t) (hu : 0 < u.numel) (hi : init (Shape.Idx.first hu) = ⊥) (hn : 0 < s.size a) (j : t.Idx) :
    ∃ r : ℝ, Host.reduce (max : EReal → EReal → EReal) x init h' hu j = r := by
  rw [Host.reduce_eq_fold_single max x init h' h hu j, hi]
  rcases fold_max_real (Finset.univ : Finset (Fin (s.size a))) (x ∘ h.lift j) (fun k => hx _) with ⟨e, -⟩ | e
  · exact absurd (Finset.mem_univ (⟨0, hn⟩ : Fin (s.size a))) (by rw [e]; exact Finset.notMem_empty _)
  · exact e

/-- The larger of minus infinity and `v`, at an index. -/
theorem max_apply (v : FVec Ideal S4x16x2048 .f32) (j : S4x16x2048.Idx) :
    maximumf (broadcastInDim S4x16x2048 ![] bcast_S_S4x16x2048 (constant S_ .f32 0xFF800000#32)) v j = v j :=
  (congrArg (fun z => max z (v j)) negInf).trans (max_eq_right bot_le)

/-- If every score is a real, so is every row's largest. -/
theorem maxA_real (s : FVec Ideal S4x16x2048x2048 .f32) (hs : ∀ i, ∃ r : ℝ, s i = r) (j : S4x16x2048.Idx) :
    ∃ r : ℝ, maxA s j = r := by
  unfold maxA
  rw [max_apply]
  exact hostMax_real (s := S4x16x2048x2048) (t := S4x16x2048) (u := S_) (a := 3) s hs _ reducesTo_S4x16x2048x2048_S4x16x2048_d3 (by decide) h_S_ negInf
    (by decide) j

/-- The exponentials of the scores less `M`. -/
def expA (s : FVec Ideal S4x16x2048x2048 .f32) (M : FVec Ideal S4x16x2048 .f32) : FVec Ideal S4x16x2048x2048 .f32 :=
  Host.exp (subf s (broadcastInDim (s := S4x16x2048x1) S4x16x2048x2048 ![0, 1, 2, 3] bcast_S4x16x2048x1_S4x16x2048x2048_0_1_2_3
    (broadcastInDim (s := S4x16x2048) S4x16x2048x1 ![0, 1, 2] bcast_S4x16x2048_S4x16x2048x1_0_1_2 M)))

theorem expA_apply (s : FVec Ideal S4x16x2048x2048 .f32) (M : FVec Ideal S4x16x2048 .f32) (b : Fin 4) (h : Fin 16) (r k : Fin 2048) :
    expA s M (ix4 b h r k) = Ideal.exp (s (ix4 b h r k) - M (ix3 b h r)) := by
  unfold expA
  pointwise

/-- The exponentials over their rows' sums, times the rows. -/
def attnA (q : FVec Ideal S4x16x2048x64 .bf16) (e : FVec Ideal S4x16x2048x2048 .f32) : FVec Ideal S4x16x2048x64 .f32 :=
  Host.dotGeneral dot_S4x16x2048x2048_S4x16x2048x64_S4x16x2048x64_3_2_2_3_01_01 none
    (Host.divf e (broadcastInDim S4x16x2048x2048 ![0, 1, 2, 3] bcast_S4x16x2048x1_S4x16x2048x2048_0_1_2_3
      (broadcastInDim S4x16x2048x1 ![0, 1, 2] bcast_S4x16x2048_S4x16x2048x1_0_1_2
        (Host.reduceAdd e (constant S_ .f32 0x00000000#32) reducesTo_S4x16x2048x2048_S4x16x2048_d3 h_S_))))
    (extf .f32 q bitsLt_bf16_f32 : FVec Ideal S4x16x2048x64 .f32)

theorem attnA_apply (q : FVec Ideal S4x16x2048x64 .bf16) (e : FVec Ideal S4x16x2048x2048 .f32) (b : Fin 4) (h : Fin 16) (r : Fin 2048)
    (d : Fin 64) :
    attnA q e (ix4 b h r d) = ∑ x, Ideal.div (e (ix4 b h r x)) (∑ x, e (ix4 b h r x)) * q (ix4 b h x d) := by
  unfold attnA
  pointwise

/-- The rows' heads side by side, times the weights, and the bias. -/
def projA (a : FVec Ideal S4x16x2048x64 .f32) (w : FVec Ideal S1024x1024 .f32) (bias : FVec Ideal S1024 .f32) : FVec Ideal S4x2048x1024 .f32 :=
  addf (Host.dotGeneral dot_S4x2048x1024_S1024x1024_S4x2048x1024_2_0_01_1_n_n none
      (shapeCast S4x2048x1024 (transpose S4x2048x16x64 [0, 2, 1, 3] a transposes_S4x16x2048x64_S4x2048x16x64_0_2_1_3) shapeCasts_S4x2048x16x64_S4x2048x1024)
      (transpose S1024x1024 [1, 0] w transposes_S1024x1024_S1024x1024_1_0))
    (broadcastInDim S4x2048x1024 ![0, 1, 2] bcast_S1x1x1024_S4x2048x1024_0_1_2 (broadcastInDim S1x1x1024 ![2] bcast_S1024_S1x1x1024_2 bias))

theorem projA_apply (a : FVec Ideal S4x16x2048x64 .f32) (w : FVec Ideal S1024x1024 .f32) (bias : FVec Ideal S1024 .f32)
    (b : Fin 4) (s : Fin 2048) (j : Fin 1024) :
    projA a w bias (ix3 b s j)
      = (∑ x : Fin 1024, a (ix4 b ⟨x.val / 64, by omega⟩ s ⟨x.val % 64, by omega⟩) * w (ix2 j x)) + bias (ix1 j) := by
  unfold projA
  pointwise

/-- The reference's result from its arguments. -/
def result (q : FVec Ideal S4x16x2048x64 .bf16) (w : FVec Ideal S1024x1024 .f32) (bias : FVec Ideal S1024 .f32) : FVec Ideal S4x2048x1024 .f32 :=
  projA (attnA q (expA (scoresA q) (maxA (scoresA q)))) w bias

end Cert.TailReferenceIdeal.Value

end
-- ==== Proof.Equation.lean ====
/- The two results are one array: of finite cosines, both are the softmax's rows over the reals, projected. -/
module

public import proofs.«01_k».proof.Defs
public import proofs.«01_k».proof.Proof.Gen.Pre_cosines_finite
public import proofs.«01_k».proof.Proof.Softmax
public import proofs.«01_k».proof.Proof.TailValue
public import proofs.«01_k».proof.Proof.RefValue

@[expose] public section

set_option maxRecDepth 16384

noncomputable section

namespace Cert.TailIdeal.Value

open Cert.TailIdeal Cert.TailIdeal.Gen
open Idealize.ShloMosaic Idealize.ShloMosaic.TcCoe Idealize.SL.Sem
open Cert.TailReferenceIdeal.Value (scoresA scoresA_apply maxA maxA_real expA expA_apply attnA attnA_apply projA projA_apply result)

theorem posInf : Ideal.ofBits FTy.f32 0x7F800000#32 = ⊤ := by
  simp [Ideal.ofBits, Ideal.ieee]

/-- An extended real below infinity in magnitude is a real. -/
theorem real_of_finite (x : EReal) (h : Ideal.cmp .olt (max x (-x)) (Ideal.ofBits .f32 0x7F800000#32) = 1#1) : ∃ r : ℝ, x = r := by
  rw [posInf] at h
  induction x with
  | coe r => exact ⟨r, rfl⟩
  | bot => simp [Ideal.cmp] at h
  | top => simp [Ideal.cmp] at h

/-- Every entry is a real. -/
def Finite (A : FVec Ideal S4x16x2048x64 .bf16) : Prop := ∀ i, ∃ r : ℝ, A i = r

/-- The precondition says that every cosine is a real. -/
theorem finite_of_pre (A : FVec Ideal S4x16x2048x64 .bf16) (w : FVec Ideal S1024x1024 .f32) (v : FVec Ideal S1024 .f32)
    (h : Cert.Pre_cosines_finite.fn (F := Ideal) A w v = fun _ => 1#1) : Finite A :=
  fun i => real_of_finite (A i) (congrFun h i)

/-- The reference's attention of finite cosines. -/
theorem ref_attn (A : FVec Ideal S4x16x2048x64 .bf16) (f : Fin 4 → Fin 16 → Fin 2048 → Fin 64 → ℝ)
    (hf : ∀ b h r d, A (ix4 b h r d) = (f b h r d : EReal)) (b : Fin 4) (h : Fin 16) (r : Fin 2048) (d : Fin 64) :
    attnA A (expA (scoresA A) (maxA (scoresA A))) (ix4 b h r d) = (softR (f b h) r d : EReal) := by
  have hs : ∀ b h r k, scoresA A (ix4 b h r k) = ((dotR (f b h) r k / 8 : ℝ) : EReal) := by
    intro b h r k
    rw [scoresA_apply]
    simp only [hf, ← EReal.coe_mul]
    rw [coe_sum, ← EReal.coe_mul]
    congr 1
    unfold dotR
    ring
  obtain ⟨M, hM⟩ := maxA_real (scoresA A) (fun i => by
    obtain ⟨b, h, r, k, rfl⟩ : ∃ (b : Fin 4) (h : Fin 16) (r k : Fin 2048), i = ix4 b h r k := ⟨i 0, i 1, i 2, i 3, eq_ix4 i⟩
    exact ⟨_, hs b h r k⟩) (ix3 b h r)
  rw [attnA_apply]
  simp only [expA_apply, hs, hM, hf]
  exact soft_shift (f b h) M r d

variable (m : (ℓ : Loc nD τ sig) → Buf (Elt Ideal) ℓ) (ρ : Dev nD → PrngReg)

/-- Of finite cosines the two results are equal. -/
theorem tail_eq_result (c : Dev nD) (hA : Finite (m ((c.tc : Thread nD τ).loc main_arg0))) :
    (result (m ((c.tc : Thread nD τ).loc main_arg0)) (m ((c.tc : Thread nD τ).loc main_arg1)) (m ((c.tc : Thread nD τ).loc main_arg2))
      : FVec Ideal S4x2048x1024 .f32) = (dat1 (V3 m ρ) c).arrAt 3 cfg1.N := by
  choose g hg using hA
  funext i
  obtain ⟨b, s, j, rfl⟩ : ∃ (b : Fin 4) (s : Fin 2048) (j : Fin 1024), i = ix3 b s j := ⟨i 0, i 1, i 2, eq_ix3 i⟩
  refine Eq.trans ?_ (tail_at m ρ c b s j).symm
  unfold result
  rw [projA_apply]
  refine congrArg (· + _) (Finset.sum_congr rfl fun x _ => congrArg (· * _) ?_)
  rw [ref_attn _ (fun b h r d => g (ix4 b h r d)) (fun b h r d => hg _)]
  exact (attnAt_real _ _ (fun r d => hg (ix4 b _ r d)) s _).symm

end Cert.TailIdeal.Value

end
-- ==== Proof.RefRun.lean ====
/- The run of the reference with its result named. -/
module

public import proofs.«01_k».proof.Proof.RefValue

@[expose] public section

set_option maxRecDepth 16384

noncomputable section

namespace Cert.TailReferenceIdeal.Value

open Cert.TailReferenceIdeal Cert.TailReferenceIdeal.Gen
open Idealize.ShloMosaic Idealize.ShloMosaic.TcCoe Idealize.SL.Sem

variable (m : (ℓ : Loc nD τ sig) → Buf (Elt Ideal) ℓ) (ρ : Dev nD → PrngReg)

/-- Every execution of the reference ends with its result, the arguments unchanged. -/
theorem run_result : θ_run defs (onTc (τ := τ) (main (F := Ideal))) ⟨m, fun _ => 0, ρ⟩ fun r => ∀ c : Dev nD,
      r.2.mem ((c.tc : Thread nD τ).loc main_v22)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold result attnA projA expA maxA scoresA
  exact run m ρ

end Cert.TailReferenceIdeal.Value

end
-- ==== Proof.CosBlock.lean ====
/-
  What the cosines' body leaves in its output block. Every entry is one function, `cosAt`, of its angle, the sum of an
  entry of `x` and one of `theta`; the 16 stores put the heads' columns into the heads' rows.
-/
module

public import proofs.«01_k».proof.Proof.Gen.CosinesIdeal.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.CosinesIdeal.Value

open Cert.CosinesIdeal Cert.CosinesIdeal.Gen
open Idealize.ShloMosaic Idealize.ShloMosaic.TcCoe Idealize.SL.Sem

/-! ## One entry -/

/-- The number of quarter turns of an angle, as a machine integer. -/
def turnsAt (a : EReal) : BitVec 32 :=
  Ideal.fptosi 32 (Ideal.liftRound Ideal.roundHalfEven (a * Ideal.ofBits .f32 0x3F22F983#32))

/-- What is left of the angle. -/
def restAt (a : EReal) : EReal :=
  a - (((turnsAt a).toInt : ℝ) : EReal) * Ideal.ofBits .f32 0x3FC90FDA#32
    - (((turnsAt a).toInt : ℝ) : EReal) * Ideal.ofBits .f32 0x33A22168#32

/-- The polynomial for the cosine, of the square. -/
def cosPolyAt (q : EReal) : EReal :=
  Ideal.ofBits .f32 0x3F800000#32 + q * (Ideal.ofBits .f32 0xBF000000#32
    + q * (Ideal.ofBits .f32 0x3D2AAAAB#32 + q * Ideal.ofBits .f32 0xBAB60B61#32))

/-- The polynomial for the sine. -/
def sinPolyAt (r q : EReal) : EReal :=
  r * (Ideal.ofBits .f32 0x3F800000#32 + q * (Ideal.ofBits .f32 0xBE2AAAAB#32
    + q * (Ideal.ofBits .f32 0x3C088889#32 + q * Ideal.ofBits .f32 0xB9500D01#32)))

/-- The choice between the two polynomials, and of the sign. -/
def pick (k : BitVec 32) (c s : EReal) : EReal :=
  Scalar.select (IntOp.cmpi .eq (IntOp.andi (IntOp.addi k 1#32) 2#32) 0#32)
    (Scalar.select (IntOp.cmpi .eq (IntOp.andi k 1#32) 0#32) c s)
    (Ideal.ofBits .f32 0x00000000#32 - Scalar.select (IntOp.cmpi .eq (IntOp.andi k 1#32) 0#32) c s)

/-- The body's function of one angle. -/
def cosAt (a : EReal) : EReal :=
  pick (turnsAt a) (cosPolyAt (restAt a * restAt a)) (sinPolyAt (restAt a) (restAt a * restAt a))

theorem angle_apply (x : Vec Ideal S1x512x1024 .f32) (th : Vec Ideal S1x1x1024 .f32) (p : Fin 512) (j : Fin 1024) :
    k0_pay6 (F := Ideal) x th (ix2 p j) = x (ix3 0 p j) + th (ix3 0 0 j) := by
  unfold k0_pay6
  pointwise

theorem turns_eq (x : Vec Ideal S1x512x1024 .f32) (th : Vec Ideal S1x1x1024 .f32) (i : S512x1024.Idx) :
    k0_pay7 (F := Ideal) x th i = turnsAt (k0_pay6 (F := Ideal) x th i) := rfl

theorem rest_eq (x : Vec Ideal S1x512x1024 .f32) (th : Vec Ideal S1x1x1024 .f32) (i : S512x1024.Idx) :
    k0_pay8 (F := Ideal) x th i = restAt (k0_pay6 (F := Ideal) x th i) := rfl

theorem cosPoly_eq (x : Vec Ideal S1x512x1024 .f32) (th : Vec Ideal S1x1x1024 .f32) (i : S512x1024.Idx) :
    k0_pay10 (F := Ideal) x th i = cosPolyAt (k0_pay8 (F := Ideal) x th i * k0_pay8 (F := Ideal) x th i) := rfl

theorem sinPoly_eq (x : Vec Ideal S1x512x1024 .f32) (th : Vec Ideal S1x1x1024 .f32) (i : S512x1024.Idx) :
    k0_pay11 (F := Ideal) x th i
      = sinPolyAt (k0_pay8 (F := Ideal) x th i) (k0_pay8 (F := Ideal) x th i * k0_pay8 (F := Ideal) x th i) := rfl

theorem pick_eq (k : IVec S512x1024 32) (c s : FVec Ideal S512x1024 .f32) (i : S512x1024.Idx) :
    k0_pay13 (F := Ideal) k c s k0_pay12 i = pick (k i) (c i) (s i) := rfl

theorem entry_eq (x : Vec Ideal S1x512x1024 .f32) (th : Vec Ideal S1x1x1024 .f32) (i : S512x1024.Idx) :
    k0_pay31 (F := Ideal) x th i = cosAt (k0_pay6 (F := Ideal) x th i) := by
  unfold k0_pay31 k0_pay27 k0_pay28 k0_pay29 k0_pay30
  rw [View.ld_unit_lit (S := S1x512x1024) _ x (by intro a; fin_cases a <;> rfl),
    View.ld_unit_lit (S := S1x1x1024) _ th (by intro a; fin_cases a <;> rfl),
    pick_eq, turns_eq, cosPoly_eq, sinPoly_eq, rest_eq]
  rfl

theorem entry_apply (x : Vec Ideal S1x512x1024 .f32) (th : Vec Ideal S1x1x1024 .f32) (p : Fin 512) (j : Fin 1024) :
    k0_pay31 (F := Ideal) x th (ix2 p j) = cosAt (x (ix3 0 p j) + th (ix3 0 0 j)) :=
  (entry_eq x th _).trans (congrArg cosAt (angle_apply x th p j))

/-! ## The block -/

/-- The output block: head `h`, row `p`, column `d` is the function of the angle in row `p`, column `64 h + d`. -/
def cosBlock (x : Vec Ideal S1x512x1024 .f32) (th : Vec Ideal S1x1x1024 .f32) : Vec Ideal S1x16x512x64 .bf16 := fun i =>
  cosAt (x (ix3 0 (i 2) ⟨(i 1).val * 64 + (i 3).val, by
      have h1 : (i 1).val < 16 := (i 1).isLt
      have h3 : (i 3).val < 64 := (i 3).isLt
      omega⟩)
    + th (ix3 0 0 ⟨(i 1).val * 64 + (i 3).val, by
      have h1 : (i 1).val < 16 := (i 1).isLt
      have h3 : (i 3).val < 64 := (i 3).isLt
      omega⟩))

/-- The store of head `h`'s columns is that head of the block. -/
theorem head_piece (x : Vec Ideal S1x512x1024 .f32) (th : Vec Ideal S1x1x1024 .f32) (h : ℕ) (hh : h < 16) (o : ℕ)
    (ho : o = h * 64) (hs : S512x1024.Slices ![0, o] S512x64)
    (hb : ∀ a, ![0, h, 0, 0] a + S1x1x512x64.size a ≤ S1x16x512x64.size a) (j : S1x1x512x64.Idx) :
    shapeCast S1x1x512x64 (extractStridedSlice S512x64 ![0, o] (k0_pay31 (F := Ideal) x th) hs)
        shapeCasts_S512x64_S1x1x512x64 j
      = cosBlock x th ((Rect.unit (s := S1x16x512x64) ![0, h, 0, 0] S1x1x512x64.size hb).emb j) := by
  subst ho
  obtain ⟨z, z', p, d, rfl⟩ : ∃ (z z' : Fin 1) (p : Fin 512) (d : Fin 64), j = ix4 z z' p d :=
    ⟨j 0, j 1, j 2, j 3, eq_ix4 j⟩
  obtain rfl : z = 0 := Subsingleton.elim _ _
  obtain rfl : z' = 0 := Subsingleton.elim _ _
  have e : (Rect.unit (s := S1x16x512x64) ![0, h, 0, 0] S1x1x512x64.size hb).emb (ix4 0 0 p d) = ix4 0 ⟨h, hh⟩ p d := by
    funext k
    match k with
    | ⟨0, _⟩ => exact Fin.ext (by simp [Rect.emb_apply, ix4])
    | ⟨1, _⟩ => exact Fin.ext (by simp [Rect.emb_apply, ix4])
    | ⟨2, _⟩ => exact Fin.ext (by simp [Rect.emb_apply, ix4])
    | ⟨3, _⟩ => exact Fin.ext (by simp [Rect.emb_apply, ix4])
  rw [e]
  have hd : h * 64 + d.val < 1024 := by omega
  have e' : shapeCast S1x1x512x64 (extractStridedSlice S512x64 ![0, h * 64] (k0_pay31 (F := Ideal) x th) hs)
        shapeCasts_S512x64_S1x1x512x64 (ix4 0 0 p d)
      = k0_pay31 (F := Ideal) x th (ix2 p ⟨h * 64 + d.val, hd⟩) := by
    pointwise
  exact e'.trans (entry_apply x th p _)

theorem out_eq (x : Vec Ideal S1x512x1024 .f32) (th : Vec Ideal S1x1x1024 .f32) : out0_2 x th = cosBlock x th := by
  funext y
  have key : ∀ L : List (View.Piece (Elt Ideal) S1x16x512x64 .bf16), View.PiecesOf (cosBlock x th) L →
      (∃ p ∈ L, y ∈ p.1.set) → View.canon L y = cosBlock x th y := fun L h hc => by
    have := View.canon_append_of_piecesOf (cosBlock x th) [] L h y hc
    rwa [List.append_nil] at this
  unfold out0_2
  refine key _ ?_ (cover0_2 _ _ _ _ _ _ _ _ _ _ _ _ _ _ _ _ y)
  exact ⟨fun j => head_piece x th 15 (by omega) 960 rfl slices_S512x1024_o0_960_S512x64 inb_S1x16x512x64_S1x1x512x64_0_15_0_0 j,
    fun j => head_piece x th 14 (by omega) 896 rfl slices_S512x1024_o0_896_S512x64 inb_S1x16x512x64_S1x1x512x64_0_14_0_0 j,
    fun j => head_piece x th 13 (by omega) 832 rfl slices_S512x1024_o0_832_S512x64 inb_S1x16x512x64_S1x1x512x64_0_13_0_0 j,
    fun j => head_piece x th 12 (by omega) 768 rfl slices_S512x1024_o0_768_S512x64 inb_S1x16x512x64_S1x1x512x64_0_12_0_0 j,
    fun j => head_piece x th 11 (by omega) 704 rfl slices_S512x1024_o0_704_S512x64 inb_S1x16x512x64_S1x1x512x64_0_11_0_0 j,
    fun j => head_piece x th 10 (by omega) 640 rfl slices_S512x1024_o0_640_S512x64 inb_S1x16x512x64_S1x1x512x64_0_10_0_0 j,
    fun j => head_piece x th 9 (by omega) 576 rfl slices_S512x1024_o0_576_S512x64 inb_S1x16x512x64_S1x1x512x64_0_9_0_0 j,
    fun j => head_piece x th 8 (by omega) 512 rfl slices_S512x1024_o0_512_S512x64 inb_S1x16x512x64_S1x1x512x64_0_8_0_0 j,
    fun j => head_piece x th 7 (by omega) 448 rfl slices_S512x1024_o0_448_S512x64 inb_S1x16x512x64_S1x1x512x64_0_7_0_0 j,
    fun j => head_piece x th 6 (by omega) 384 rfl slices_S512x1024_o0_384_S512x64 inb_S1x16x512x64_S1x1x512x64_0_6_0_0 j,
    fun j => head_piece x th 5 (by omega) 320 rfl slices_S512x1024_o0_320_S512x64 inb_S1x16x512x64_S1x1x512x64_0_5_0_0 j,
    fun j => head_piece x th 4 (by omega) 256 rfl slices_S512x1024_o0_256_S512x64 inb_S1x16x512x64_S1x1x512x64_0_4_0_0 j,
    fun j => head_piece x th 3 (by omega) 192 rfl slices_S512x1024_o0_192_S512x64 inb_S1x16x512x64_S1x1x512x64_0_3_0_0 j,
    fun j => head_piece x th 2 (by omega) 128 rfl slices_S512x1024_o0_128_S512x64 inb_S1x16x512x64_S1x1x512x64_0_2_0_0 j,
    fun j => head_piece x th 1 (by omega) 64 rfl slices_S512x1024_o0_64_S512x64 inb_S1x16x512x64_S1x1x512x64_0_1_0_0 j,
    fun j => head_piece x th 0 (by omega) 0 rfl slices_S512x1024_o0_0_S512x64 inb_S1x16x512x64_S1x1x512x64_0_0_0_0 j, trivial⟩

end Cert.CosinesIdeal.Value

end
-- ==== Proof.CosArray.lean ====
/- What the cosines' pipeline leaves in its result array. -/
module

public import proofs.«01_k».proof.Proof.CosBlock
public import Idealize.ShloMosaic.Lib.Pipeline.Value

@[expose] public section

set_option maxRecDepth 16384

noncomputable section

namespace Cert.CosinesIdeal.Value

open Cert.CosinesIdeal Cert.CosinesIdeal.Gen
open Idealize.ShloMosaic Idealize.ShloMosaic.TcCoe Idealize.SL.Sem
open Idealize.ShloMosaic.Pipeline (Dat)

/-- The result: batch `b`, head `h`, position `s`, column `d` is the function of the angle in column `64 h + d`. -/
def cosArr (X : Vec Ideal S4x2048x1024 .f32) (T : Vec Ideal S1x1x1024 .f32) : Vec Ideal S4x16x2048x64 .bf16 := fun i =>
  cosAt (X (ix3 (i 0) (i 2) ⟨(i 1).val * 64 + (i 3).val, by
      have h1 : (i 1).val < 16 := (i 1).isLt
      have h3 : (i 3).val < 64 := (i 3).isLt
      omega⟩)
    + T (ix3 0 0 ⟨(i 1).val * 64 + (i 3).val, by
      have h1 : (i 1).val < 16 := (i 1).isLt
      have h3 : (i 3).val < 64 := (i 3).isLt
      omega⟩))

/-- Point `t` is batch `t / 4`, rows `512 (t % 4) …`. -/
theorem idx : ∀ t : Fin cfg0.N, win0_0.index t = ![t.val / 4, t.val % 4, 0] ∧ win0_1.index t = ![0, 0, 0]
    ∧ win0_2.index t = ![t.val / 4, 0, t.val % 4, 0] := by decide +kernel

variable (m : (ℓ : Loc nD τ sig) → Buf (Elt Ideal) ℓ)

theorem point_lt (t : Fin cfg0.N) : t.val < 16 := t.isLt

theorem iblk_x_apply (c : Dev nD) (t : Fin cfg0.N) (p : Fin 512) (j : Fin 1024) :
    (iblk m c 0 t : Vec Ideal S1x512x1024 .f32) (ix3 0 p j)
      = (V m c main_arg0 : Vec Ideal S4x2048x1024 .f32)
          (ix3 ⟨t.val / 4, by have := point_lt t; omega⟩ ⟨t.val % 4 * 512 + p.val, by omega⟩ j) := by
  blk_ext [iblk, idx t]

theorem iblk_theta_eq (c : Dev nD) (t : Fin cfg0.N) : (iblk m c 1 t : Vec Ideal S1x1x1024 .f32) = V m c main_v0 := by
  funext y
  blk_ext [iblk, idx t]

theorem cos_array (c : Dev nD) : (dats m 0 c).arrAt 2 cfg0.N = cosArr (V m c main_arg0) (V m c main_v0) := by
  refine (dats m 0 c).arrAt_eq_of_covers 2 _ (by decide +kernel) fun t hf y => ?_
  blk_simp
  rw [after0_2, out_eq]
  have ht := point_lt t
  obtain ⟨z, h, p, d, rfl⟩ : ∃ (z : Fin 1) (h : Fin 16) (p : Fin 512) (d : Fin 64), y = ix4 z h p d :=
    ⟨y 0, y 1, y 2, y 3, eq_ix4 y⟩
  obtain rfl : z = 0 := Subsingleton.elim _ _
  have e : (win0_2.blk t).view.emb (ix4 0 h p d)
      = ix4 ⟨t.val / 4, by omega⟩ h ⟨t.val % 4 * 512 + p.val, by omega⟩ d := by blk_ext [idx t]
  rw [e]
  unfold cosBlock cosArr
  rw [iblk_theta_eq]
  exact congrArg (fun u => cosAt (u + _)) (iblk_x_apply m c t p _)

/-- The launch ends with the result array so, and the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1)
        = cosArr (m ((c.tc : Thread nD τ).loc main_arg0))
            (shapeCast S1x1x1024 (m ((c.tc : Thread nD τ).loc main_arg1) : Vec Ideal S16x64 .f32) shapeCasts_S16x64_S1x1x1024)) := by
  refine (θ_run defs _ _).mono (fun r h => ?_) (θ_run_and (unchanged m ρ) (run_main m ρ))
  intro c
  refine ⟨(h.1 c).1, (h.1 c).2, ?_⟩
  refine ((h.2 c).1 2).trans ((cos_array m c).trans ?_)
  rfl

end Cert.CosinesIdeal.Value

end
-- ==== Proof.CosMath.lean ====
/-
  The polynomial cosine over the reals. An angle `a` is reduced by the nearest whole number of quarter turns, with a
  quarter turn held as the sum of two short numbers; a short polynomial gives the cosine or sine of what is left, and the
  number of quarter turns picks which of the two, and its sign. `fastCos_near` bounds its distance from `Real.cos`.
-/
module

public import Idealize.ShloMosaic.PureOps.Ideal
public import Mathlib.Analysis.SpecialFunctions.Trigonometric.Basic

@[expose] public section

noncomputable section

namespace Cert.CosinesIdeal.Value

open Idealize.ShloMosaic

/-! ## The function -/

/-- The nearest whole number of quarter turns. -/
def turns (a : ℝ) : ℤ := Ideal.roundHalfEven (a * (10680707 / 16777216))

/-- What is left of the angle. -/
def rest (a : ℝ) : ℝ := a - turns a * (6588397 / 4194304) - turns a * (1328173 / 17592186044416)

/-- The polynomial for the cosine, of the square. -/
def cosPoly (q : ℝ) : ℝ := 1 + q * (-(1 / 2) + q * (11184811 / 268435456 + q * (-(11930465 / 8589934592))))

/-- The polynomial for the sine. -/
def sinPoly (r q : ℝ) : ℝ :=
  r * (1 + q * (-(11184811 / 67108864) + q * (8947849 / 1073741824 + q * (-(13634817 / 68719476736)))))

/-- The cosine or the sine, by the parity of the number of quarter turns. -/
def unsigned (a : ℝ) : ℝ :=
  if turns a % 2 = 0 then cosPoly (rest a * rest a) else sinPoly (rest a) (rest a * rest a)

/-- The polynomial cosine. -/
def fastCos (a : ℝ) : ℝ := if (turns a + 1) % 4 / 2 = 0 then unsigned a else 0 - unsigned a

/-! ## Rounding to the nearest integer -/

theorem roundHalfEven_near (t : ℝ) : |t - Ideal.roundHalfEven t| ≤ 1 / 2 := by
  have h0 := Int.floor_le t
  have h1 := Int.lt_floor_add_one t
  unfold Ideal.roundHalfEven
  simp only
  rw [abs_le]
  split_ifs <;> push_cast <;> constructor <;> linarith

theorem turns_near (a : ℝ) : |a * (10680707 / 16777216) - turns a| ≤ 1 / 2 := roundHalfEven_near _

theorem turns_le {a : ℝ} (h : |a| ≤ 100000) : |(turns a : ℝ)| ≤ 64000 := by
  have := turns_near a
  rw [abs_le] at *
  constructor <;> linarith [this.1, this.2, h.1, h.2]

theorem rest_le {a : ℝ} (h : |a| ≤ 100000) : |rest a| ≤ 79 / 100 := by
  have := turns_near a
  unfold rest
  rw [abs_le] at *
  constructor <;> linarith [this.1, this.2, h.1, h.2]

/-! ## Sine and cosine by their first terms -/

/-- The first terms of the cosine. -/
def cosTerms (r : ℝ) : ℝ := 1 - r ^ 2 / 2 + r ^ 4 / 24 - r ^ 6 / 720 + r ^ 8 / 40320 - r ^ 10 / 3628800

/-- The first terms of the sine. -/
def sinTerms (r : ℝ) : ℝ := r - r ^ 3 / 6 + r ^ 5 / 120 - r ^ 7 / 5040 + r ^ 9 / 362880 - r ^ 11 / 39916800

/-- The first twelve terms of the exponential at `r * I`. -/
theorem exp_terms (r : ℝ) : ∑ m ∈ Finset.range 12, ((r : ℂ) * Complex.I) ^ m / (m.factorial : ℂ)
    = (cosTerms r : ℂ) + (sinTerms r : ℂ) * Complex.I := by
  have h2 : Complex.I ^ 2 = -1 := Complex.I_sq
  have h3 : Complex.I ^ 3 = -Complex.I := by rw [pow_succ, h2]; ring
  have h4 : Complex.I ^ 4 = 1 := Complex.I_pow_four
  have h5 : Complex.I ^ 5 = Complex.I := by rw [pow_succ, h4]; ring
  have h6 : Complex.I ^ 6 = -1 := by rw [pow_succ, h5, ← pow_two, h2]
  have h7 : Complex.I ^ 7 = -Complex.I := by rw [pow_succ, h6]; ring
  have h8 : Complex.I ^ 8 = 1 := by rw [show 8 = 4 * 2 from rfl, pow_mul, h4]; ring
  have h9 : Complex.I ^ 9 = Complex.I := by rw [pow_succ, h8]; ring
  have h10 : Complex.I ^ 10 = -1 := by rw [pow_succ, h9, ← pow_two, h2]
  have h11 : Complex.I ^ 11 = -Complex.I := by rw [pow_succ, h10]; ring
  simp only [Finset.sum_range_succ, Finset.sum_range_zero, mul_pow, h2, h3, h4, h5, h6, h7, h8, h9, h10, h11,
    Nat.factorial, cosTerms, sinTerms]
  push_cast
  ring

theorem terms_near {r : ℝ} (h : |r| ≤ 1) : |Real.cos r - cosTerms r| ≤ |r| ^ 12 * (13 / 5748019200)
    ∧ |Real.sin r - sinTerms r| ≤ |r| ^ 12 * (13 / 5748019200) := by
  have hn : ‖(r : ℂ) * Complex.I‖ = |r| := by simp
  have hb := Complex.exp_bound (x := (r : ℂ) * Complex.I) (by rw [hn]; exact h) (n := 12) (by norm_num)
  have e : (((Nat.succ 12 : ℕ) : ℝ) * ((Nat.factorial 12 : ℝ) * ((12 : ℕ) : ℝ))⁻¹) = 13 / 5748019200 := by
    norm_num [Nat.factorial]
  rw [hn, exp_terms, e, Complex.exp_mul_I, ← Complex.ofReal_cos, ← Complex.ofReal_sin] at hb
  refine ⟨le_trans (le_of_eq ?_) ((Complex.abs_re_le_norm _).trans hb),
    le_trans (le_of_eq ?_) ((Complex.abs_im_le_norm _).trans hb)⟩ <;>
  · congr 1
    simp only [Complex.add_re, Complex.sub_re, Complex.mul_re, Complex.add_im, Complex.sub_im, Complex.mul_im,
      Complex.ofReal_re, Complex.ofReal_im, Complex.I_re, Complex.I_im]
    ring

/-- Close angles have close cosines and sines. -/
theorem trig_close {x y : ℝ} (h : |x - y| ≤ 1) : |Real.cos x - Real.cos y| ≤ 2 * |x - y|
    ∧ |Real.sin x - Real.sin y| ≤ 2 * |x - y| := by
  have hn : ‖((x - y : ℝ) : ℂ) * Complex.I‖ = |x - y| := by
    rw [norm_mul, Complex.norm_I, mul_one, Complex.norm_real, Real.norm_eq_abs]
  have hb := Complex.norm_exp_sub_one_le (x := ((x - y : ℝ) : ℂ) * Complex.I) (by rw [hn]; exact h)
  have e : Complex.exp ((x : ℂ) * Complex.I) - Complex.exp ((y : ℂ) * Complex.I)
      = Complex.exp ((y : ℂ) * Complex.I) * (Complex.exp (((x - y : ℝ) : ℂ) * Complex.I) - 1) := by
    rw [mul_sub, mul_one, ← Complex.exp_add]
    congr 2
    push_cast
    ring
  have hb : ‖Complex.exp ((x : ℂ) * Complex.I) - Complex.exp ((y : ℂ) * Complex.I)‖ ≤ 2 * |x - y| := by
    rw [e, norm_mul, Complex.norm_exp_ofReal_mul_I, one_mul, ← hn]
    exact hb
  rw [Complex.exp_mul_I, Complex.exp_mul_I, ← Complex.ofReal_cos, ← Complex.ofReal_sin, ← Complex.ofReal_cos,
    ← Complex.ofReal_sin] at hb
  refine ⟨le_trans (le_of_eq ?_) ((Complex.abs_re_le_norm _).trans hb),
    le_trans (le_of_eq ?_) ((Complex.abs_im_le_norm _).trans hb)⟩ <;>
  · congr 1
    simp only [Complex.add_re, Complex.sub_re, Complex.mul_re, Complex.add_im, Complex.sub_im, Complex.mul_im,
      Complex.ofReal_re, Complex.ofReal_im, Complex.I_re, Complex.I_im]
    ring

/-! ## A quarter turn, from the sine of a twelfth of a turn -/

theorem sixth_lower : (523598775594 / 1000000000000 : ℝ) < Real.pi / 6 := by
  by_contra hc
  have hc := not_lt.mp hc
  have h1 := Real.one_le_pi_div_two
  have hs := (terms_near (r := 523598775594 / 1000000000000) (by rw [abs_of_pos (by norm_num)]; norm_num)).2
  have hm := Real.strictMonoOn_sin.monotoneOn (a := Real.pi / 6) (b := 523598775594 / 1000000000000)
    ⟨by linarith, by linarith⟩ ⟨by linarith, by linarith⟩ hc
  rw [Real.sin_pi_div_six] at hm
  rw [abs_of_pos (show (0 : ℝ) < 523598775594 / 1000000000000 by norm_num), abs_le] at hs
  have hs := hs.2
  unfold sinTerms at hs
  norm_num at hs
  linarith

theorem sixth_upper : Real.pi / 6 < (523598775603 / 1000000000000 : ℝ) := by
  by_contra hc
  have hc := not_lt.mp hc
  have h1 := Real.one_le_pi_div_two
  have hs := (terms_near (r := 523598775603 / 1000000000000) (by rw [abs_of_pos (by norm_num)]; norm_num)).2
  have hm := Real.strictMonoOn_sin.monotoneOn (a := 523598775603 / 1000000000000) (b := Real.pi / 6)
    ⟨by linarith, by linarith⟩ ⟨by linarith, by linarith⟩ hc
  rw [Real.sin_pi_div_six] at hm
  rw [abs_of_pos (show (0 : ℝ) < 523598775603 / 1000000000000 by norm_num), abs_le] at hs
  have hs := hs.1
  unfold sinTerms at hs
  norm_num at hs
  linarith

/-- The two short numbers' sum against a quarter turn. -/
theorem rest_near {a : ℝ} (h : |a| ≤ 100000) : |rest a - (a - turns a * (Real.pi / 2))| ≤ 1 / 1000000 := by
  have e : rest a - (a - turns a * (Real.pi / 2))
      = turns a * (Real.pi / 2 - 6588397 / 4194304 - 1328173 / 17592186044416) := by unfold rest; ring
  have hp : |Real.pi / 2 - 6588397 / 4194304 - 1328173 / 17592186044416| ≤ 15 / 1000000000000 := by
    have h1 := sixth_lower
    have h2 := sixth_upper
    rw [abs_le]
    constructor <;> linarith
  rw [e, abs_mul]
  calc |(turns a : ℝ)| * |Real.pi / 2 - 6588397 / 4194304 - 1328173 / 17592186044416|
      ≤ 64000 * (15 / 1000000000000) := mul_le_mul (turns_le h) hp (abs_nonneg _) (by norm_num)
    _ ≤ 1 / 1000000 := by norm_num

/-! ## The polynomials -/

/-- A power of what is left of the angle. -/
theorem abs_pow_le {r : ℝ} (h : |r| ≤ 79 / 100) (n : ℕ) : |r ^ n| ≤ (79 / 100) ^ n := by
  rw [abs_pow]
  exact pow_le_pow_left₀ (abs_nonneg r) h n

theorem cosPoly_near {r : ℝ} (h : |r| ≤ 79 / 100) : |cosPoly (r * r) - Real.cos r| ≤ 6 / 1000000 := by
  have ht := (terms_near (r := r) (by linarith)).1
  have h4 := abs_pow_le h 4
  have h6 := abs_pow_le h 6
  have h8 := abs_pow_le h 8
  have h10 := abs_pow_le h 10
  have h12 := abs_pow_le h 12
  rw [abs_pow] at h12
  have e : cosPoly (r * r) = cosTerms r
      + (r ^ 4 * (11184811 / 268435456 - 1 / 24) - r ^ 6 * (11930465 / 8589934592 - 1 / 720) - r ^ 8 / 40320
        + r ^ 10 / 3628800) := by
    unfold cosPoly cosTerms; ring
  rw [e]
  rw [abs_le] at ht h4 h6 h8 h10 ⊢
  norm_num at h4 h6 h8 h10 h12
  constructor <;> linarith [ht.1, ht.2, h4.1, h4.2, h6.1, h6.2, h8.1, h8.2, h10.1, h10.2, h12]

theorem sinPoly_near {r : ℝ} (h : |r| ≤ 79 / 100) : |sinPoly r (r * r) - Real.sin r| ≤ 6 / 1000000 := by
  have ht := (terms_near (r := r) (by linarith)).2
  have h3 := abs_pow_le h 3
  have h5 := abs_pow_le h 5
  have h7 := abs_pow_le h 7
  have h9 := abs_pow_le h 9
  have h11 := abs_pow_le h 11
  have h12 := abs_pow_le h 12
  rw [abs_pow] at h12
  have e : sinPoly r (r * r) = sinTerms r
      + (-(r ^ 3 * (11184811 / 67108864 - 1 / 6)) + r ^ 5 * (8947849 / 1073741824 - 1 / 120)
        - r ^ 7 * (13634817 / 68719476736 - 1 / 5040) - r ^ 9 / 362880 + r ^ 11 / 39916800) := by
    unfold sinPoly sinTerms; ring
  rw [e]
  rw [abs_le] at ht h3 h5 h7 h9 h11 ⊢
  norm_num at h3 h5 h7 h9 h11 h12
  constructor <;> linarith [ht.1, ht.2, h3.1, h3.2, h5.1, h5.2, h7.1, h7.2, h9.1, h9.2, h11.1, h11.2, h12]

/-! ## The quarter turns -/

/-- Quarter turns whose number leaves `j` by four. -/
theorem cos_turns (x : ℝ) (k q j : ℤ) (h : k = 4 * q + j) :
    Real.cos (x + k * (Real.pi / 2)) = Real.cos (x + j * (Real.pi / 2)) := by
  rw [show x + (k : ℝ) * (Real.pi / 2) = x + j * (Real.pi / 2) + q * (2 * Real.pi) by rw [h]; push_cast; ring]
  exact Real.cos_add_int_mul_two_pi _ _

/-- The distance of the polynomial cosine from the cosine. -/
theorem fastCos_near {a : ℝ} (h : |a| ≤ 100000) : |fastCos a - Real.cos a| ≤ 9 / 1000000 := by
  have hr := rest_le h
  have hx := rest_near h
  generalize hX : a - turns a * (Real.pi / 2) = x at hx
  have hc := cosPoly_near hr
  have hs := sinPoly_near hr
  have ht := trig_close (x := rest a) (y := x) (by linarith)
  have hc' : |Real.cos (rest a) - Real.cos x| ≤ 2 / 1000000 := by linarith [ht.1]
  have hs' : |Real.sin (rest a) - Real.sin x| ≤ 2 / 1000000 := by linarith [ht.2]
  have ha : a = x + turns a * (Real.pi / 2) := by rw [← hX]; ring
  have hk : turns a = 4 * (turns a / 4) + turns a % 4 := by omega
  have hcos : Real.cos a = Real.cos (x + (turns a % 4 : ℤ) * (Real.pi / 2)) :=
    (congrArg Real.cos ha).trans (cos_turns x _ _ _ hk)
  rw [hcos]
  unfold fastCos unsigned
  rw [abs_le] at hc hs hc' hs' ⊢
  have h4 : turns a % 4 = 0 ∨ turns a % 4 = 1 ∨ turns a % 4 = 2 ∨ turns a % 4 = 3 := by omega
  rcases h4 with h4 | h4 | h4 | h4
  · rw [if_pos (by omega), if_pos (by omega), h4]
    have : Real.cos (x + ((0 : ℤ) : ℝ) * (Real.pi / 2)) = Real.cos x := by simp
    rw [this]
    constructor <;> linarith [hc.1, hc.2, hc'.1, hc'.2]
  · rw [if_neg (by omega), if_neg (by omega), h4]
    have : Real.cos (x + ((1 : ℤ) : ℝ) * (Real.pi / 2)) = -Real.sin x := by
      rw [Int.cast_one, one_mul, Real.cos_add_pi_div_two]
    rw [this]
    constructor <;> linarith [hs.1, hs.2, hs'.1, hs'.2]
  · rw [if_neg (by omega), if_pos (by omega), h4]
    have : Real.cos (x + ((2 : ℤ) : ℝ) * (Real.pi / 2)) = -Real.cos x := by
      rw [show x + ((2 : ℤ) : ℝ) * (Real.pi / 2) = x + Real.pi by push_cast; ring, Real.cos_add_pi]
    rw [this]
    constructor <;> linarith [hc.1, hc.2, hc'.1, hc'.2]
  · rw [if_pos (by omega), if_neg (by omega), h4]
    have : Real.cos (x + ((3 : ℤ) : ℝ) * (Real.pi / 2)) = Real.sin x := by
      rw [show x + ((3 : ℤ) : ℝ) * (Real.pi / 2) = x + Real.pi / 2 + Real.pi by push_cast; ring, Real.cos_add_pi,
        Real.cos_add_pi_div_two, neg_neg]
    rw [this]
    constructor <;> linarith [hs.1, hs.2, hs'.1, hs'.2]

end Cert.CosinesIdeal.Value

end
-- ==== Proof.CosReal.lean ====
/- The body's function of an angle within its range is the polynomial cosine over the reals. -/
module

public import proofs.«01_k».proof.Proof.CosBlock
public import proofs.«01_k».proof.Proof.CosMath
public import Mathlib.Data.Nat.Bitwise

@[expose] public section

set_option maxRecDepth 16384

noncomputable section

namespace Cert.CosinesIdeal.Value

open Cert.CosinesIdeal Cert.CosinesIdeal.Gen
open Idealize.ShloMosaic

/-! ## The literals -/

theorem lit_turn : Ideal.ofBits .f32 0x3F22F983#32 = ((10680707 / 16777216 : ℝ) : EReal) := by
  simp [Ideal.ofBits, Ideal.ieee, -EReal.coe_mul]; norm_num
theorem lit_quarter : Ideal.ofBits .f32 0x3FC90FDA#32 = ((6588397 / 4194304 : ℝ) : EReal) := by
  simp [Ideal.ofBits, Ideal.ieee, -EReal.coe_mul]; norm_num
theorem lit_quarter_low : Ideal.ofBits .f32 0x33A22168#32 = ((1328173 / 17592186044416 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
theorem lit_c2 : Ideal.ofBits .f32 0xBF000000#32 = ((-(1 / 2) : ℝ) : EReal) := by
  simp [Ideal.ofBits, Ideal.ieee, -EReal.coe_mul]; norm_num
theorem lit_c4 : Ideal.ofBits .f32 0x3D2AAAAB#32 = ((11184811 / 268435456 : ℝ) : EReal) := by
  simp [Ideal.ofBits, Ideal.ieee, -EReal.coe_mul]; norm_num
theorem lit_c6 : Ideal.ofBits .f32 0xBAB60B61#32 = ((-(11930465 / 8589934592) : ℝ) : EReal) := by
  simp [Ideal.ofBits, Ideal.ieee, -EReal.coe_mul]; norm_num
theorem lit_s3 : Ideal.ofBits .f32 0xBE2AAAAB#32 = ((-(11184811 / 67108864) : ℝ) : EReal) := by
  simp [Ideal.ofBits, Ideal.ieee, -EReal.coe_mul]; norm_num
theorem lit_s5 : Ideal.ofBits .f32 0x3C088889#32 = ((8947849 / 1073741824 : ℝ) : EReal) := by
  simp [Ideal.ofBits, Ideal.ieee, -EReal.coe_mul]; norm_num
theorem lit_s7 : Ideal.ofBits .f32 0xB9500D01#32 = ((-(13634817 / 68719476736) : ℝ) : EReal) := by
  simp [Ideal.ofBits, Ideal.ieee, -EReal.coe_mul]; norm_num

/-! ## The polynomials -/

theorem cosPolyAt_coe (q : ℝ) : cosPolyAt (q : EReal) = (cosPoly q : EReal) := by
  unfold cosPolyAt cosPoly
  rw [lit_one, lit_c2, lit_c4, lit_c6]
  simp only [← EReal.coe_mul, ← EReal.coe_add]

theorem sinPolyAt_coe (r q : ℝ) : sinPolyAt (r : EReal) (q : EReal) = (sinPoly r q : EReal) := by
  unfold sinPolyAt sinPoly
  rw [lit_one, lit_s3, lit_s5, lit_s7]
  simp only [← EReal.coe_mul, ← EReal.coe_add]

/-! ## The number of quarter turns -/

theorem turns_range {a : ℝ} (h : |a| ≤ 100000) : -64000 ≤ turns a ∧ turns a ≤ 64000 := by
  have := abs_le.mp (turns_le h)
  exact ⟨by exact_mod_cast this.1, by exact_mod_cast this.2⟩

theorem turnsAt_coe {a : ℝ} (h : |a| ≤ 100000) : turnsAt (a : EReal) = BitVec.ofInt 32 (turns a) := by
  obtain ⟨h1, h2⟩ := turns_range h
  unfold turnsAt
  rw [lit_turn, ← EReal.coe_mul, Ideal.liftRound_coe]
  unfold Ideal.fptosi
  rw [Ideal.toIntClamped_coe]
  change BitVec.ofInt 32 (max _ (min _ (if (0 : ℝ) ≤ ((turns a : ℤ) : ℝ) then ⌊((turns a : ℤ) : ℝ)⌋ else ⌈((turns a : ℤ) : ℝ)⌉))) = _
  rw [Int.floor_intCast, Int.ceil_intCast, ite_self]
  congr 1
  norm_num
  omega

theorem toInt_turns {k : ℤ} (h1 : -64000 ≤ k) (h2 : k ≤ 64000) : (BitVec.ofInt 32 k).toInt = k := by
  rw [BitVec.toInt_ofInt]
  exact Int.bmod_eq_of_le (by norm_num; omega) (by norm_num; omega)

/-- The lowest bit is the parity. -/
theorem and_one (k : ℤ) : (BitVec.ofInt 32 k &&& 1#32 = 0#32) ↔ k % 2 = 0 := by
  rw [← BitVec.toNat_inj, BitVec.toNat_and, BitVec.toNat_ofInt]
  have : (1#32).toNat = 2 ^ 1 - 1 := rfl
  rw [this, Nat.and_two_pow_sub_one_eq_mod]
  simp
  omega

/-- The second bit of the next integer. -/
theorem and_two (k : ℤ) : (BitVec.ofInt 32 k + 1#32) &&& 2#32 = 0#32 ↔ (k + 1) % 4 / 2 = 0 := by
  have e : BitVec.ofInt 32 k + 1#32 = BitVec.ofInt 32 (k + 1) := by
    rw [BitVec.ofInt_add]; rfl
  rw [e]
  generalize k + 1 = j
  rw [← BitVec.toNat_inj, BitVec.toNat_and, BitVec.toNat_ofInt, show (2#32).toNat = 2 ^ 1 from rfl, Nat.and_two_pow,
    Nat.testBit_eq_decide_div_mod_eq]
  by_cases hj : (j % (2 ^ 32 : ℕ)).toNat / 2 ^ 1 % 2 = 1
  · simp only [hj, decide_true, Bool.toNat_true]
    constructor
    · intro h; exact absurd h (by decide)
    · intro h; exfalso; norm_num at hj; omega
  · simp only [hj, decide_false, Bool.toNat_false, zero_mul, BitVec.toNat_ofNat]
    constructor
    · intro _; norm_num at hj; omega
    · intro _; rfl

/-! ## The function -/

theorem restAt_coe {a : ℝ} (h : |a| ≤ 100000) : restAt (a : EReal) = (rest a : EReal) := by
  obtain ⟨h1, h2⟩ := turns_range h
  unfold restAt rest
  rw [turnsAt_coe h, toInt_turns h1 h2, lit_quarter, lit_quarter_low]
  simp only [← EReal.coe_mul, ← EReal.coe_sub]

/-- A comparison of machine integers picks as its proposition does. -/
theorem select_eq {α : Type} (u : BitVec 32) (p : Prop) [Decidable p] (h : u = 0#32 ↔ p) (x y : α) :
    Scalar.select (IntOp.cmpi .eq u 0#32) x y = if p then x else y := by
  unfold Scalar.select IntOp.cmpi
  by_cases hp : p
  · rw [if_pos hp, h.mpr hp]; rfl
  · rw [if_neg hp]
    have : (u == 0#32) = false := beq_eq_false_iff_ne.mpr fun e => hp (h.mp e)
    simp [this]

theorem cosAt_coe {a : ℝ} (h : |a| ≤ 100000) : cosAt (a : EReal) = (fastCos a : EReal) := by
  unfold cosAt pick
  rw [restAt_coe h, turnsAt_coe h, ← EReal.coe_mul, cosPolyAt_coe, sinPolyAt_coe, lit_zero]
  unfold IntOp.andi IntOp.addi
  rw [select_eq _ _ (and_one (turns a)), select_eq _ _ (and_two (turns a))]
  unfold fastCos unsigned
  split_ifs <;> first | rfl | exact (EReal.coe_sub _ _).symm

/-- The body's function of an angle within its range is near its cosine. -/
theorem cosAt_near {a : ℝ} (h : |a| ≤ 100000) :
    ∃ y : ℝ, cosAt (a : EReal) = (y : EReal) ∧ |y - Real.cos a| ≤ 9 / 1000000 :=
  ⟨_, cosAt_coe h, fastCos_near h⟩

end Cert.CosinesIdeal.Value

end
-- ==== Proof.CosClaim.lean ====
/- The cosines' result against the cosine: the precondition and the postcondition at an index, and the claim. -/
module

public import proofs.«01_k».proof.Defs
public import proofs.«01_k».proof.Proof.Gen.Pre_angles_moderate
public import proofs.«01_k».proof.Proof.Gen.Post_near_cosines
public import proofs.«01_k».proof.Proof.CosArray
public import proofs.«01_k».proof.Proof.CosReal

@[expose] public section

set_option maxRecDepth 16384

noncomputable section

namespace Cert.CosinesIdeal.Value

open Cert.CosinesIdeal Cert.CosinesIdeal.Gen
open Idealize.ShloMosaic Idealize.ShloMosaic.TcCoe Idealize.SL.Sem

/-- The angle of batch `b`, position `s`, head `h`, column `d`. -/
def angle (X : FVec Ideal S4x2048x1024 .f32) (T : FVec Ideal S16x64 .f32) (b : Fin 4) (s : Fin 2048) (h : Fin 16)
    (d : Fin 64) : EReal :=
  X (ix3 b s ⟨h.val * 64 + d.val, by omega⟩) + T (ix2 h d)

theorem lit_range : Ideal.ofBits .f32 0x47C35000#32 = ((100000 : ℝ) : EReal) := by
  simp [Ideal.ofBits, Ideal.ieee, -EReal.coe_mul]; norm_num
theorem lit_near : Ideal.ofBits .f32 0x3727C5AC#32 = ((2748779 / 274877906944 : ℝ) : EReal) := by
  simp [Ideal.ofBits, Ideal.ieee, -EReal.coe_mul]; norm_num

/-! ## The conditions at an index -/

theorem pre_apply (X : FVec Ideal S4x2048x1024 .f32) (T : FVec Ideal S16x64 .f32) (b : Fin 4) (s : Fin 2048) (h : Fin 16)
    (d : Fin 64) :
    Cert.Pre_angles_moderate.fn (F := Ideal) X T (ix4 b s h d)
      = Ideal.cmp .ole (max (angle X T b s h d) (-angle X T b s h d)) (Ideal.ofBits .f32 0x47C35000#32) := by
  unfold Cert.Pre_angles_moderate.fn angle
  pointwise
  rfl

theorem post_apply (X : FVec Ideal S4x2048x1024 .f32) (T : FVec Ideal S16x64 .f32) (O : FVec Ideal S4x16x2048x64 .bf16)
    (b : Fin 4) (h : Fin 16) (s : Fin 2048) (d : Fin 64) :
    Cert.Post_near_cosines.fn (F := Ideal) X T O (ix4 b h s d)
      = Ideal.cmp .ole (max (O (ix4 b h s d) - Ideal.cos (angle X T b s h d)) (-(O (ix4 b h s d) - Ideal.cos (angle X T b s h d))))
          (Ideal.ofBits .f32 0x3727C5AC#32) := by
  unfold Cert.Post_near_cosines.fn angle
  pointwise
  rfl

/-- An extended real within the range is a real within it. -/
theorem real_of_range (x : EReal) (h : Ideal.cmp .ole (max x (-x)) (Ideal.ofBits .f32 0x47C35000#32) = 1#1) :
    ∃ a : ℝ, x = a ∧ |a| ≤ 100000 := by
  rw [lit_range] at h
  induction x with
  | coe a =>
    refine ⟨a, rfl, ?_⟩
    by_contra hc
    have : ¬ (max (a : EReal) (-(a : EReal)) ≤ ((100000 : ℝ) : EReal)) := by
      intro hle
      apply hc
      rw [max_le_iff, ← EReal.coe_neg, EReal.coe_le_coe_iff, EReal.coe_le_coe_iff] at hle
      exact abs_le.mpr ⟨by linarith [hle.2], hle.1⟩
    simp [Ideal.cmp, this] at h
  | bot => simp [Ideal.cmp] at h
  | top => simp [Ideal.cmp] at h

/-- A near entry passes the comparison. -/
theorem near_of_real (y z : ℝ) (h : |y - z| ≤ 9 / 1000000) :
    Ideal.cmp .ole (max ((y : EReal) - (z : EReal)) (-((y : EReal) - (z : EReal)))) (Ideal.ofBits .f32 0x3727C5AC#32) = 1#1 := by
  have hle : max ((y : EReal) - (z : EReal)) (-((y : EReal) - (z : EReal))) ≤ Ideal.ofBits .f32 0x3727C5AC#32 := by
    rw [lit_near, ← EReal.coe_sub, ← EReal.coe_neg, max_le_iff, EReal.coe_le_coe_iff, EReal.coe_le_coe_iff]
    have := abs_le.mp h
    constructor <;> linarith [this.1, this.2]
  simp [Ideal.cmp, hle]

/-! ## The claim -/

theorem cosArr_apply (X : FVec Ideal S4x2048x1024 .f32) (T : FVec Ideal S16x64 .f32) (b : Fin 4) (h : Fin 16)
    (s : Fin 2048) (d : Fin 64) :
    cosArr X (shapeCast S1x1x1024 T shapeCasts_S16x64_S1x1x1024) (ix4 b h s d) = cosAt (angle X T b s h d) := by
  have e : shapeCast S1x1x1024 T shapeCasts_S16x64_S1x1x1024 (ix3 0 0 ⟨h.val * 64 + d.val, by omega⟩) = T (ix2 h d) := by
    pointwise
  exact congrArg (fun u => cosAt (X (ix3 b s ⟨h.val * 64 + d.val, by omega⟩) + u)) e

/-- The result of moderate angles passes the postcondition everywhere. -/
theorem near (X : FVec Ideal S4x2048x1024 .f32) (T : FVec Ideal S16x64 .f32)
    (hp : Cert.Pre_angles_moderate.fn (F := Ideal) X T = fun _ => 1#1) :
    Cert.Post_near_cosines.fn (F := Ideal) X T (cosArr X (shapeCast S1x1x1024 T shapeCasts_S16x64_S1x1x1024)) = fun _ => 1#1 := by
  funext i
  obtain ⟨b, h, s, d, rfl⟩ : ∃ (b : Fin 4) (h : Fin 16) (s : Fin 2048) (d : Fin 64), i = ix4 b h s d :=
    ⟨i 0, i 1, i 2, i 3, eq_ix4 i⟩
  obtain ⟨a, ha, hr⟩ := real_of_range _ ((pre_apply X T b s h d).symm.trans (congrFun hp (ix4 b s h d)))
  obtain ⟨y, hy, hn⟩ := cosAt_near hr
  refine (post_apply X T _ b h s d).trans ?_
  rw [cosArr_apply, ha, hy]
  exact near_of_real y (Real.cos a) hn

theorem holds_near : Cert.holds_CosinesIdeal_near_cosines_pre_angles_moderate := fun m ρ hpre =>
  (θ_run defs _ _).mono (fun r h c => ⟨(h c).1, (h c).2.1, by
    rw [(h c).2.2]
    exact near _ _ (hpre c)⟩) (run m ρ)

end Cert.CosinesIdeal.Value

end
-- ==== Proof.KernelArrays.lean ====
/-
  What the three calls of the whole kernel leave in their arrays. Their bodies are those of the calls apart, so the blocks
  are theirs; the arrays are read off the blocks again, as the launch is another.
-/
module

public import proofs.«01_k».proof.Proof.Gen.KernelIdeal.Frame
public import proofs.«01_k».proof.Proof.AttnArray
public import proofs.«01_k».proof.Proof.ProjArray
public import proofs.«01_k».proof.Proof.CosArray
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)
open Cert.TailIdeal.Value (headBlock attnArr attnBlock attnAt outPieces out_piece projAt projArr)
open Cert.CosinesIdeal.Value (cosArr cosBlock cosAt)

/-! ## The bodies are those of the calls apart -/

theorem cos_eq (x : Vec Ideal S1x512x1024 .f32) (th : Vec Ideal S1x1x1024 .f32) : out0_2 x th = cosBlock x th :=
  Eq.trans (b := Cert.CosinesIdeal.Gen.out0_2 (F := Ideal) x th) rfl (Cert.CosinesIdeal.Value.out_eq x th)

theorem proj_eq (x0 : Vec Ideal S1x16x512x64 .bf16) (x1 : Vec Ideal S1024x1024 .bf16) (x2 : Vec Ideal S1x1024 .f32) :
    out2_3 (F := Ideal) x0 x1 x2 = Cert.TailIdeal.Gen.out1_3 (F := Ideal) x0 x1 x2 := rfl

section
variable (c : Dev nD) (i : grid1.Coords) (arg2 : Memref sig .tc .vmem S1x2048x64 .bf16) (harg2 : arg2.IsWhole) (arg3 : Memref sig .tc .vmem S1x2048x64 .bf16) (harg3 : arg3.IsWhole) (arg4 : Memref sig .tc .vmem S2048x128 .bf16) (harg4 : arg4.IsWhole) (arg5 : Memref sig .tc .vmem S256x2048 .bf16) (harg5 : arg5.IsWhole) (x0 : Vec Ideal S1x2048x64 .bf16)

set_option maxHeartbeats 4000000 in
/-- The attention body's eight output stores. -/
theorem pieces_eq : ∃ L0 L1 L2 L3 L4 L5 L6 L7,
    (kernelRun1_A (F := Ideal) c i arg2 harg2 arg3 harg3 arg4 harg4 arg5 harg5 x0).1
    = outPieces arg4.view arg5.view x0 L0 L1 L2 L3 L4 L5 L6 L7 := by
  have hx : View.readAt (Elt Ideal) arg2.view (Rect.unit ![0, 0, 0] S1x2048x64.size inb_S1x2048x64_S1x2048x64_0_0_0).toLoadRect
      (harg2.unread x0) = x0 := by
    rw [View.readAt_eq_ld, harg2.read_unread]
    exact View.ld_unit_lit _ _ (by intro a; fin_cases a <;> rfl)
  unfold kernelRun1_A
  dsimp only
  sl_unfold_words
  rw [hx]
  exact ⟨_, _, _, _, _, _, _, _, rfl⟩

/-- The attention body leaves `attnBlock` of its input block in its output block. -/
theorem attn_eq : out1_A_1 (F := Ideal) c i arg2 harg2 arg3 harg3 arg4 harg4 arg5 harg5 x0 = attnBlock x0 := by
  obtain ⟨L0, L1, L2, L3, L4, L5, L6, L7, hL⟩ := pieces_eq c i arg2 harg2 arg3 harg3 arg4 harg4 arg5 harg5 x0
  have hcov := cover1_A_1 (F := Ideal) c i arg2 harg2 arg3 harg3 arg4 harg4 arg5 harg5 x0
  unfold out1_A_1
  rw [View.read_writes_junk_eq_canon]
  funext y
  have hy := hcov y
  rw [hL] at hy ⊢
  exact Cert.TailIdeal.Value.outPieces_canon _ _ x0 L0 L1 L2 L3 L4 L5 L6 L7 y hy
end

/-! ## The arrays -/

theorem idx0 : ∀ t : Fin cfg0.N, win0_0.index t = ![t.val / 4, t.val % 4, 0] ∧ win0_1.index t = ![0, 0, 0]
    ∧ win0_2.index t = ![t.val / 4, 0, t.val % 4, 0] := by decide +kernel
theorem idx1 : ∀ t : Fin cfg1.N, win1_0.index t = ![t.val, 0, 0] ∧ win1_1.index t = ![t.val, 0, 0] := by decide +kernel
theorem idx2 : ∀ t : Fin cfg2.N, win2_0.index t = ![t.val / 4, 0, t.val % 4, 0] ∧ win2_1.index t = ![0, 0]
    ∧ win2_2.index t = ![0, 0] ∧ win2_3.index t = ![t.val / 4, t.val % 4, 0] := by decide +kernel

variable (V : (c : Dev nD) → (b : Ref sig .tc) → Buf (Elt Ideal) ((c : Thread nD τ).loc b))

theorem point0_lt (t : Fin cfg0.N) : t.val < 16 := t.isLt
theorem point2_lt (t : Fin cfg2.N) : t.val < 16 := t.isLt

theorem iblk0_0_apply (c : Dev nD) (t : Fin cfg0.N) (p : Fin 512) (j : Fin 1024) :
    (iblk0 V c 0 t : Vec Ideal S1x512x1024 .f32) (ix3 0 p j)
      = (V c main_arg0 : Vec Ideal S4x2048x1024 .f32)
          (ix3 ⟨t.val / 4, by have := point0_lt t; omega⟩ ⟨t.val % 4 * 512 + p.val, by omega⟩ j) := by
  blk_ext [iblk0, idx0 t]

theorem iblk0_1_eq (c : Dev nD) (t : Fin cfg0.N) : (iblk0 V c 1 t : Vec Ideal S1x1x1024 .f32) = V c main_v0 := by
  funext y
  blk_ext [iblk0, idx0 t]

theorem iblk1_0_eq (c : Dev nD) (t : Fin cfg1.N) : iblk1 V c 0 t = headBlock (V c main_v2) ⟨t.val, t.isLt⟩ := by
  funext y
  blk_ext [iblk1, headBlock, idx1 t]

theorem iblk2_0_apply (c : Dev nD) (t : Fin cfg2.N) (h : Fin 16) (a : Fin 512) (d : Fin 64) :
    (iblk2 V c 0 t : Vec Ideal S1x16x512x64 .bf16) (ix4 0 h a d)
      = (V c main_v4 : Vec Ideal S4x16x2048x64 .bf16) (ix4 ⟨t.val / 4, by have := point2_lt t; omega⟩ h ⟨t.val % 4 * 512 + a.val, by omega⟩ d) := by
  blk_ext [iblk2, idx2 t]

theorem iblk2_1_eq (c : Dev nD) (t : Fin cfg2.N) : (iblk2 V c 1 t : Vec Ideal S1024x1024 .bf16) = V c main_v6 := by
  funext y
  blk_ext [iblk2, idx2 t]

theorem iblk2_2_eq (c : Dev nD) (t : Fin cfg2.N) : (iblk2 V c 2 t : Vec Ideal S1x1024 .f32) = V c main_v7 := by
  funext y
  blk_ext [iblk2, idx2 t]

/-- The first call leaves the cosines of the whole arrays. -/
theorem cos_array (c : Dev nD) : (dat0 V c).arrAt 2 cfg0.N = cosArr (V c main_arg0) (V c main_v0) := by
  refine (dat0 V c).arrAt_eq_of_covers 2 _ (by decide +kernel) fun t hf y => ?_
  blk_simp
  rw [after0_2, cos_eq]
  have ht := point0_lt t
  obtain ⟨z, h, p, d, rfl⟩ : ∃ (z : Fin 1) (h : Fin 16) (p : Fin 512) (d : Fin 64), y = ix4 z h p d :=
    ⟨y 0, y 1, y 2, y 3, eq_ix4 y⟩
  obtain rfl : z = 0 := Subsingleton.elim _ _
  have e : (win0_2.blk t).view.emb (ix4 0 h p d)
      = ix4 ⟨t.val / 4, by omega⟩ h ⟨t.val % 4 * 512 + p.val, by omega⟩ d := by blk_ext [idx0 t]
  rw [e]
  unfold cosBlock cosArr
  rw [iblk0_1_eq]
  exact congrArg (fun u => cosAt (u + _)) (iblk0_0_apply V c t p _)

/-- The second leaves every head's attention. -/
theorem attn_array (c : Dev nD) : (dat1 V c).arrAt 1 cfg1.N = attnArr (V c main_v2) := by
  refine (dat1 V c).arrAt_eq_of_covers 1 _ (by decide +kernel) fun t hf y => ?_
  blk_simp
  rw [after1_1]
  unfold outsAt1
  rw [attn_eq, iblk1_0_eq]
  have e : (win1_1.blk t).view.emb y = ix3 ⟨t.val, t.isLt⟩ (y 1) (y 2) := by blk_ext [idx1 t]
  rw [e]
  rfl

/-- The third leaves the projection. -/
theorem proj_array (c : Dev nD) : (dat2 V c).arrAt 3 cfg2.N = projArr (V c main_v4) (V c main_v6) (V c main_v7) := by
  refine (dat2 V c).arrAt_eq_of_covers 3 _ (by decide +kernel) fun t hf y => ?_
  blk_simp
  rw [after2_3, proj_eq]
  have ht := point2_lt t
  obtain ⟨z, a, j, rfl⟩ : ∃ (z : Fin 1) (a : Fin 512) (j : Fin 1024), y = ix3 z a j := ⟨y 0, y 1, y 2, eq_ix3 y⟩
  obtain rfl : z = 0 := Subsingleton.elim _ _
  have e : (win2_3.blk t).view.emb (ix3 0 a j)
      = ix3 ⟨t.val / 4, by omega⟩ ⟨t.val % 4 * 512 + a.val, by omega⟩ j := by blk_ext [idx2 t]
  rw [e]
  refine (Cert.TailIdeal.Value.out1_apply _ _ _ a j).trans ?_
  rw [iblk2_1_eq, iblk2_2_eq]
  simp only [iblk2_0_apply]
  rfl

end Cert.KernelIdeal.Value

end
-- ==== Proof.KernelRun.lean ====
/-
  The run of `KernelIdeal` with its result: the generated frame's launch, read at one more buffer. Every execution ends
  with the result array holding what the third pipeline left in it, and the argument arrays as they were.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at what the third pipeline wrote, the arguments unchanged. -/
theorem run : θ_run defs (onTc (τ := τ) (main (F := F))) ⟨m, fun _ => 0, ρ⟩ (fun r => ∀ c : Dev nD,
      r.2.mem ((c.tc : Thread nD τ).loc main_v8) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨(h c _ (mem_uc main_v8 (by decide))).trans (W6_arr m ρ c 3),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Value

end
-- ==== Proof.KernelValue.lean ====
/- The result of the whole kernel at an index, from its arguments. -/
module

public import proofs.«01_k».proof.Proof.KernelArrays
public import proofs.«01_k».proof.Proof.KernelRun
public import proofs.«01_k».proof.Proof.TailValue
public import Idealize.ShloMosaic.Lib.StableHlo.Run

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)
open Cert.TailIdeal.Value (attnAt attnArr headRows projAt headBlock_merge split_apply weight_apply bias_apply)
open Cert.CosinesIdeal.Value (cosArr)

variable (m : (ℓ : Loc nD τ sig) → Buf (Elt Ideal) ℓ) (ρ : Dev nD → PrngReg)

theorem entry_theta (c : Dev nD) : V1 m ρ c main_v0
    = shapeCast S1x1x1024 (m ((c.tc : Thread nD τ).loc main_arg1) : Vec Ideal S16x64 .f32) shapeCasts_S16x64_S1x1x1024 := by
  show StableHlo.after hostOps0 (W0 m ρ c) (Proc.devRef .tc main_v0) = _
  unfold hostOps0
  after_results <;> rfl

theorem entry_heads (c : Dev nD) : V3 m ρ c main_v2
    = shapeCast S64x2048x64 ((dat0 (V1 m ρ) c).arrAt 2 cfg0.N : Vec Ideal S4x16x2048x64 .bf16) shapeCasts_S4x16x2048x64_S64x2048x64 := by
  rw [← W2_arr m ρ c 2]
  show StableHlo.after hostOps1 (W2 m ρ c) (Proc.devRef .tc main_v2) = _
  unfold hostOps1
  after_results <;> rfl

theorem entry_rows (c : Dev nD) : V5 m ρ c main_v4
    = shapeCast S4x16x2048x64 ((dat1 (V3 m ρ) c).arrAt 1 cfg1.N : Vec Ideal S64x2048x64 .bf16) shapeCasts_S64x2048x64_S4x16x2048x64 := by
  rw [← W4_arr m ρ c 1]
  show StableHlo.after hostOps2 (W4 m ρ c) (Proc.devRef .tc main_v4) = _
  unfold hostOps2
  after_results <;> rfl

theorem entry_weights (c : Dev nD) : V5 m ρ c main_v6
    = (truncf .bf16 (transpose S1024x1024 [1, 0] (m ((c.tc : Thread nD τ).loc main_arg2) : FVec Ideal S1024x1024 .f32) transposes_S1024x1024_S1024x1024_1_0) bitsLt_bf16_f32 : FVec Ideal S1024x1024 .bf16) := by
  rw [← W4_args m ρ c main_arg2 (by decide)]
  show StableHlo.after hostOps2 (W4 m ρ c) (Proc.devRef .tc main_v6) = _
  unfold hostOps2
  after_results <;> rfl

theorem entry_bias (c : Dev nD) : V5 m ρ c main_v7
    = shapeCast S1x1024 (m ((c.tc : Thread nD τ).loc main_arg3) : Vec Ideal S1024 .f32) shapeCasts_S1024_S1x1024 := by
  rw [← W4_args m ρ c main_arg3 (by decide)]
  show StableHlo.after hostOps2 (W4 m ρ c) (Proc.devRef .tc main_v7) = _
  unfold hostOps2
  after_results <;> rfl

/-- The cosines that the first call leaves, from the kernel's arguments. -/
def cosines (X : Vec Ideal S4x2048x1024 .f32) (T : Vec Ideal S16x64 .f32) : FVec Ideal S4x16x2048x64 .bf16 :=
  cosArr X (shapeCast S1x1x1024 T shapeCasts_S16x64_S1x1x1024)

theorem cosines_eq (c : Dev nD) : ((dat0 (V1 m ρ) c).arrAt 2 cfg0.N : Vec Ideal S4x16x2048x64 .bf16)
    = cosines (m ((c.tc : Thread nD τ).loc main_arg0)) (m ((c.tc : Thread nD τ).loc main_arg1)) := by
  rw [cos_array, entry_theta]
  exact congrArg (fun X => cosArr X _) (W1_args m ρ c main_arg0 (by decide))

/-- The result at batch `b`, row `s`, column `j`. -/
theorem kernel_at (c : Dev nD) (b : Fin 4) (s : Fin 2048) (j : Fin 1024) :
    ((dat2 (V5 m ρ) c).arrAt 3 cfg2.N : FVec Ideal S4x2048x1024 .f32) (ix3 b s j)
      = (∑ x : Fin 1024, attnAt (headRows (cosines (m ((c.tc : Thread nD τ).loc main_arg0)) (m ((c.tc : Thread nD τ).loc main_arg1)))
            b ⟨x.val / 64, by omega⟩) s ⟨x.val % 64, by omega⟩
          * (m ((c.tc : Thread nD τ).loc main_arg2) : FVec Ideal S1024x1024 .f32) (ix2 j x))
        + (m ((c.tc : Thread nD τ).loc main_arg3) : FVec Ideal S1024 .f32) (ix1 j) := by
  rw [proj_array, entry_rows, entry_weights, entry_bias, attn_array, entry_heads, cosines_eq]
  show projAt _ _ _ b s j = _
  unfold projAt
  refine congrArg₂ _ (Finset.sum_congr rfl fun x _ => ?_) (bias_apply _ j)
  refine congrArg₂ _ ?_ (weight_apply _ x j)
  refine (split_apply _ b _ s _).trans ?_
  rw [← headBlock_merge]
  rfl

end Cert.KernelIdeal.Value

end
-- ==== Proof.SoftmaxNear.lean ====
/-
  The softmax's row moves little with its rows: of rows within `9 / 1000000` of ones of magnitude at most one, it is within
  `4 / 10000` of theirs.
-/
module

public import proofs.«01_k».proof.Proof.Softmax

@[expose] public section

noncomputable section

namespace Cert.TailIdeal.Value

/-- A mean moves by at most what its entries move by, and what its weights move by. -/
theorem mean_near {n : ℕ} (w w' g g' : Fin n → ℝ) (hw : 0 < ∑ k, w k) (hw' : 0 < ∑ k, w' k) (q e : ℝ) (hq : 1 ≤ q)
    (h0 : ∀ k, 0 < w k) (h0' : ∀ k, 0 < w' k) (hup : ∀ k, w' k ≤ q * w k) (hlo : ∀ k, w k ≤ q * w' k)
    (hg : ∀ k, |g k| ≤ 1) (he : ∀ k, |g' k - g k| ≤ e) :
    |(∑ k, w' k * g' k) / (∑ k, w' k) - (∑ k, w k * g k) / (∑ k, w k)| ≤ e + (q ^ 2 - 1) := by
  have hS : (∑ k, w k) ≤ q * ∑ k, w' k := by rw [Finset.mul_sum]; exact Finset.sum_le_sum fun k _ => hlo k
  have hS' : (∑ k, w' k) ≤ q * ∑ k, w k := by rw [Finset.mul_sum]; exact Finset.sum_le_sum fun k _ => hup k
  set S := ∑ k, w k with hSd
  set S' := ∑ k, w' k with hSd'
  have hp : ∀ k, |w' k / S' - w k / S| ≤ (q ^ 2 - 1) * (w k / S) := by
    intro k
    have hk : 0 < w k / S := div_pos (h0 k) hw
    have hk' : 0 < w' k / S' := div_pos (h0' k) hw'
    have u : w' k / S' ≤ q ^ 2 * (w k / S) := by
      rw [div_le_iff₀ hw', show q ^ 2 * (w k / S) * S' = (q * w k) * (q * S') / S by field_simp, le_div_iff₀ hw]
      exact mul_le_mul (hup k) hS hw.le ((h0' k).le.trans (hup k))
    have l : w k / S ≤ q ^ 2 * (w' k / S') := by
      rw [div_le_iff₀ hw, show q ^ 2 * (w' k / S') * S = (q * w' k) * (q * S) / S' by field_simp, le_div_iff₀ hw']
      exact mul_le_mul (hlo k) hS' hw'.le ((h0 k).le.trans (hlo k))
    have hq2 : 0 ≤ q ^ 2 - 1 := by nlinarith
    rw [abs_le]
    refine ⟨?_, by linarith⟩
    rcases le_total (w' k / S') (w k / S) with h | h
    · have := mul_le_mul_of_nonneg_left h hq2
      linarith
    · have := mul_nonneg hq2 hk.le
      linarith
  have hs : ∑ k, w k / S = 1 := by rw [← Finset.sum_div]; exact div_self hw.ne'
  have hs' : ∑ k, w' k / S' = 1 := by rw [← Finset.sum_div]; exact div_self hw'.ne'
  have hd : (∑ k, w' k * g' k) / S' - (∑ k, w k * g k) / S
      = ∑ k, (w' k / S' * (g' k - g k) + (w' k / S' - w k / S) * g k) := by
    rw [Finset.sum_div, Finset.sum_div, ← Finset.sum_sub_distrib]
    exact Finset.sum_congr rfl fun k _ => by ring
  rw [hd]
  refine (Finset.abs_sum_le_sum_abs _ _).trans ?_
  have hb : ∀ k, |w' k / S' * (g' k - g k) + (w' k / S' - w k / S) * g k| ≤ w' k / S' * e + (q ^ 2 - 1) * (w k / S) := by
    intro k
    refine (abs_add_le _ _).trans (add_le_add ?_ ?_)
    · rw [abs_mul, abs_of_pos (div_pos (h0' k) hw')]
      exact mul_le_mul_of_nonneg_left (he k) (div_pos (h0' k) hw').le
    · rw [abs_mul]
      exact (mul_le_of_le_one_right (abs_nonneg _) (hg k)).trans (hp k)
  refine (Finset.sum_le_sum fun k _ => hb k).trans ?_
  rw [Finset.sum_add_distrib, ← Finset.sum_mul, ← Finset.mul_sum, hs, hs']
  linarith

/-- The rows' products move little. -/
theorem dotR_near (f f' : Fin 2048 → Fin 64 → ℝ) (hf : ∀ r d, |f r d| ≤ 1) (hn : ∀ r d, |f' r d - f r d| ≤ 9 / 1000000)
    (r k : Fin 2048) : |dotR f' r k / 8 - dotR f r k / 8| ≤ 145 / 1000000 := by
  have hx : ∀ x, |f' r x * f' k x - f r x * f k x| ≤ 181 / 10000000 := by
    intro x
    have e : f' r x * f' k x - f r x * f k x
        = (f' r x - f r x) * f k x + f r x * (f' k x - f k x) + (f' r x - f r x) * (f' k x - f k x) := by ring
    have a := mul_le_mul (hn r x) (hf k x) (abs_nonneg _) (by norm_num)
    have b := mul_le_mul (hf r x) (hn k x) (abs_nonneg _) (by norm_num)
    have c := mul_le_mul (hn r x) (hn k x) (abs_nonneg _) (by norm_num)
    rw [← abs_mul] at a b c
    rw [e]
    refine (abs_add_le _ _).trans ((add_le_add (abs_add_le _ _) le_rfl).trans ?_)
    norm_num at a b c ⊢
    linarith
  have hs : |dotR f' r k - dotR f r k| ≤ 64 * (181 / 10000000) := by
    unfold dotR
    rw [← Finset.sum_sub_distrib]
    refine (Finset.abs_sum_le_sum_abs _ _).trans ((Finset.sum_le_sum fun x _ => hx x).trans ?_)
    simp
  rw [← sub_div, abs_div, abs_of_pos (by norm_num : (0 : ℝ) < 8)]
  linarith

theorem exp_near (a b : ℝ) (h : |a - b| ≤ 145 / 1000000) : Real.exp a ≤ Real.exp (145 / 1000000) * Real.exp b := by
  rw [← Real.exp_add]
  exact Real.exp_le_exp.mpr (by linarith [(abs_le.mp h).2])

theorem soft_near (f f' : Fin 2048 → Fin 64 → ℝ) (hf : ∀ r d, |f r d| ≤ 1) (hn : ∀ r d, |f' r d - f r d| ≤ 9 / 1000000)
    (r : Fin 2048) (d : Fin 64) : |softR f' r d - softR f r d| ≤ 4 / 10000 := by
  have hq : Real.exp (145 / 1000000) ^ 2 ≤ 1 + 3 / 10000 := by
    rw [sq, ← Real.exp_add]
    have h := Real.abs_exp_sub_one_sub_id_le (x := 145 / 1000000 + 145 / 1000000) (by norm_num [abs_le])
    have := (abs_le.mp h).2
    norm_num at this ⊢
    linarith
  have h := mean_near (fun k => Real.exp (dotR f r k / 8)) (fun k => Real.exp (dotR f' r k / 8)) (fun k => f k d) (fun k => f' k d)
    (sum_exp_pos _) (sum_exp_pos _) (Real.exp (145 / 1000000)) (9 / 1000000) (Real.one_le_exp (by norm_num))
    (fun k => Real.exp_pos _) (fun k => Real.exp_pos _) (fun k => exp_near _ _ (dotR_near f f' hf hn r k))
    (fun k => exp_near _ _ (by rw [abs_sub_comm]; exact dotR_near f f' hf hn r k)) (fun k => hf k d) (fun k => hn k d)
  unfold softR
  linarith

end Cert.TailIdeal.Value

end
-- ==== Proof.ProjNear.lean ====
/-
  The projection's bound, over the extended reals: of near rows with the same weights and bias, the results are equal or
  differ by at most the rows' distance times the sum of the weights' magnitudes.
-/
module

public import proofs.«01_k».proof.Proof.Softmax

@[expose] public section

noncomputable section

namespace Cert.TailIdeal.Value

open Idealize.ShloMosaic

/-- The magnitude of an extended real. -/
def magn (x : EReal) : EReal := max x (-x)

theorem magn_coe (r : ℝ) : magn (r : EReal) = ((|r| : ℝ) : EReal) := by
  unfold magn
  rw [← EReal.coe_neg, ← EReal.coe_strictMono.monotone.map_max]
  rfl

theorem magn_nonneg (x : EReal) : 0 ≤ magn x := by
  rcases le_total 0 x with h | h
  · exact h.trans (le_max_left _ _)
  · exact (EReal.neg_nonneg.mpr h).trans (le_max_right _ _)

theorem magn_real_or_top (x : EReal) : (∃ r : ℝ, x = r) ∨ magn x = ⊤ := by
  induction x with
  | coe r => exact Or.inl ⟨r, rfl⟩
  | bot => exact Or.inr (by simp [magn])
  | top => exact Or.inr (by simp [magn])

/-- A row of near numbers, times the weights, plus the bias. -/
theorem proj_near {n : ℕ} (u v : Fin n → ℝ) (W : Fin n → EReal) (B : EReal) (δ : ℝ) (hδ : 0 < δ) (h : ∀ x, |u x - v x| ≤ δ) :
    magn (((∑ x, (u x : EReal) * W x) + B) - ((∑ x, (v x : EReal) * W x) + B)) ≤ (δ : EReal) * ∑ x, magn (W x)
      ∨ (∑ x, (u x : EReal) * W x) + B = (∑ x, (v x : EReal) * W x) + B := by
  by_cases hW : ∀ x, ∃ r : ℝ, W x = r
  · choose w hw using hW
    have hs : ∀ t : Fin n → ℝ, (∑ x, (t x : EReal) * W x) = ((∑ x, t x * w x : ℝ) : EReal) := fun t => by
      rw [← coe_sum]
      exact Finset.sum_congr rfl fun x _ => by rw [hw, EReal.coe_mul]
    rw [hs, hs]
    induction B with
    | coe c =>
      left
      simp only [hw, magn_coe, coe_sum]
      rw [← EReal.coe_add, ← EReal.coe_add, ← EReal.coe_sub, magn_coe, ← EReal.coe_mul, EReal.coe_le_coe_iff]
      have e : (∑ x, u x * w x) + c - ((∑ x, v x * w x) + c) = ∑ x, (u x - v x) * w x := by
        rw [add_sub_add_right_eq_sub, ← Finset.sum_sub_distrib]
        exact Finset.sum_congr rfl fun x _ => by ring
      rw [e, Finset.mul_sum]
      refine (Finset.abs_sum_le_sum_abs _ _).trans (Finset.sum_le_sum fun x _ => ?_)
      rw [abs_mul]
      exact mul_le_mul_of_nonneg_right (h x) (abs_nonneg _)
    | bot => right; simp
    | top => right; simp
  · left
    obtain ⟨x, hx⟩ := not_forall.mp hW
    have ht : magn (W x) = ⊤ := (magn_real_or_top _).resolve_left hx
    have hs : (∑ x, magn (W x)) = ⊤ := top_le_iff.mp (ht ▸
      Finset.single_le_sum (f := fun x => magn (W x)) (fun i _ => magn_nonneg _) (Finset.mem_univ x))
    rw [hs, EReal.coe_mul_top_of_pos hδ]
    exact le_top

end Cert.TailIdeal.Value

end
-- ==== Proof.KernelClaim.lean ====
/-
  The whole kernel's result against the reference's: the precondition and the postcondition at an index, and the claim. The
  first call's cosines are near the cosines, so the attention's rows are near the reference's, so the projection is.
-/
module

public import proofs.«01_k».proof.Defs
public import proofs.«01_k».proof.Proof.Gen.Pre_angles_in_range
public import proofs.«01_k».proof.Proof.Gen.Post_near_reference
public import proofs.«01_k».proof.Proof.KernelValue
public import proofs.«01_k».proof.Proof.SoftmaxNear
public import proofs.«01_k».proof.Proof.ProjNear
public import proofs.«01_k».proof.Proof.Equation
public import proofs.«01_k».proof.Proof.CosClaim

@[expose] public section

set_option maxRecDepth 16384

noncomputable section

namespace Cert.KernelIdeal.Value

open Cert.KernelIdeal Cert.KernelIdeal.Gen
open Idealize.ShloMosaic Idealize.ShloMosaic.TcCoe Idealize.SL.Sem
open Cert.TailIdeal.Value (softR soft_near proj_near magn attnAt attnAt_real headRows ref_attn)
open Cert.TailReferenceIdeal.Value (result projA_apply attnA expA scoresA maxA)
open Cert.CosinesIdeal.Value (angle cosAt cosAt_near real_of_range cosArr_apply)

theorem lit_part : Ideal.ofBits .f32 0x3A03126F#32 = ((8589935 / 17179869184 : ℝ) : EReal) := by
  simp [Ideal.ofBits, Ideal.ieee, -EReal.coe_mul]; norm_num

/-! ## The conditions at an index -/

/-- The precondition is that of the cosines, of the first two arguments. -/
theorem range_eq (X : FVec Ideal S4x2048x1024 .f32) (T : FVec Ideal S16x64 .f32) (W : FVec Ideal S1024x1024 .f32) (B : FVec Ideal S1024 .f32) :
    Cert.Pre_angles_in_range.fn (F := Ideal) X T W B = Cert.Pre_angles_moderate.fn (F := Ideal) X T := rfl

/-- The cosines, as the postcondition writes them. -/
def exactCos (X : FVec Ideal S4x2048x1024 .f32) (T : FVec Ideal S16x64 .f32) : FVec Ideal S4x16x2048x64 .bf16 :=
  transpose (α := EReal) Cert.Post_near_reference.S4x16x2048x64 [0, 2, 1, 3]
    (Host.cos (addf (shapeCast Cert.Post_near_reference.S4x2048x16x64 X Cert.Post_near_reference.Gen.facts.shapeCasts_S4x2048x1024_S4x2048x16x64)
      (broadcastInDim Cert.Post_near_reference.S4x2048x16x64 ![0, 1, 2, 3] Cert.Post_near_reference.Gen.facts.bcast_S1x1x16x64_S4x2048x16x64_0_1_2_3
        (broadcastInDim Cert.Post_near_reference.S1x1x16x64 ![2, 3] Cert.Post_near_reference.Gen.facts.bcast_S16x64_S1x1x16x64_2_3 T)) : FVec Ideal Cert.Post_near_reference.S4x2048x16x64 .f32))
    Cert.Post_near_reference.Gen.facts.transposes_S4x2048x16x64_S4x16x2048x64_0_2_1_3

theorem exactCos_apply (X : FVec Ideal S4x2048x1024 .f32) (T : FVec Ideal S16x64 .f32) (b : Fin 4) (h : Fin 16) (s : Fin 2048) (d : Fin 64) :
    exactCos X T (ix4 b h s d) = Ideal.cos (angle X T b s h d) := by
  unfold exactCos angle
  pointwise

/-- The bound of every column. -/
def bound (W : FVec Ideal S1024x1024 .f32) : FVec Ideal S1024 .f32 :=
  mulf (broadcastInDim Cert.Post_near_reference.S1024 ![] Cert.Post_near_reference.Gen.facts.bcast_S_S1024 (constant Cert.Post_near_reference.S_ .f32 0x3A03126F#32))
    (Host.reduceAdd (Host.absf W) (constant Cert.Post_near_reference.S_ .f32 0x00000000#32)
      Cert.Post_near_reference.Gen.facts.reducesTo_S1024x1024_S1024_d1 Cert.Post_near_reference.Gen.facts.h_S_)

theorem bound_apply (W : FVec Ideal S1024x1024 .f32) (j : Fin 1024) :
    bound W (ix1 j) = Ideal.ofBits .f32 0x3A03126F#32 * ∑ x : Fin 1024, magn (W (ix2 j x)) := by
  unfold bound magn
  pointwise
  rfl

/-- The postcondition: near the reference's result of the cosines, or equal to it. -/
theorem post_eq (X : FVec Ideal S4x2048x1024 .f32) (T : FVec Ideal S16x64 .f32) (W : FVec Ideal S1024x1024 .f32) (B : FVec Ideal S1024 .f32)
    (O : FVec Ideal S4x2048x1024 .f32) (i : S4x2048x1024.Idx) :
    Cert.Post_near_reference.fn (F := Ideal) X T W B O i
      = IntOp.ori (Ideal.cmp .ole (magn (O i - result (exactCos X T) W B i))
          (broadcastInDim S4x2048x1024 ![0, 1, 2] Cert.Post_near_reference.Gen.facts.bcast_S1x1x1024_S4x2048x1024_0_1_2
            (broadcastInDim Cert.Post_near_reference.S1x1x1024 ![2] Cert.Post_near_reference.Gen.facts.bcast_S1024_S1x1x1024_2 (bound W)) i))
        (Ideal.cmp .oeq (O i) (result (exactCos X T) W B i)) := rfl

theorem spread_apply (v : FVec Ideal S1024 .f32) (b : Fin 4) (s : Fin 2048) (j : Fin 1024) :
    broadcastInDim S4x2048x1024 ![0, 1, 2] Cert.Post_near_reference.Gen.facts.bcast_S1x1x1024_S4x2048x1024_0_1_2
      (broadcastInDim Cert.Post_near_reference.S1x1x1024 ![2] Cert.Post_near_reference.Gen.facts.bcast_S1024_S1x1x1024_2 v) (ix3 b s j) = v (ix1 j) := by
  pointwise

/-- Either comparison is enough. -/
theorem either (p q x y : EReal) (h : p ≤ q ∨ x = y) : IntOp.ori (Ideal.cmp .ole p q) (Ideal.cmp .oeq x y) = 1#1 := by
  rcases h with h | h
  · have e : Ideal.cmp .ole p q = 1#1 := by simp [Ideal.cmp, h]
    rw [e]
    generalize Ideal.cmp .oeq x y = z
    revert z
    decide
  · have e : Ideal.cmp .oeq x y = 1#1 := by simp [Ideal.cmp, h]
    rw [e]
    generalize Ideal.cmp .ole p q = z
    revert z
    decide

/-! ## The claim -/

/-- Of moderate angles, a result that is the attention and projection of the first call's cosines passes everywhere. -/
theorem near (X : FVec Ideal S4x2048x1024 .f32) (T : FVec Ideal S16x64 .f32) (W : FVec Ideal S1024x1024 .f32) (B : FVec Ideal S1024 .f32)
    (O : FVec Ideal S4x2048x1024 .f32)
    (hO : ∀ (b : Fin 4) (s : Fin 2048) (j : Fin 1024), O (ix3 b s j)
      = (∑ x : Fin 1024, attnAt (headRows (cosines X T) b ⟨x.val / 64, by omega⟩) s ⟨x.val % 64, by omega⟩ * W (ix2 j x)) + B (ix1 j))
    (hp : Cert.Pre_angles_moderate.fn (F := Ideal) X T = fun _ => 1#1) :
    Cert.Post_near_reference.fn (F := Ideal) X T W B O = fun _ => 1#1 := by
  have ha : ∀ (b : Fin 4) (h : Fin 16) (s : Fin 2048) (d : Fin 64), ∃ a : ℝ, angle X T b s h d = a ∧ |a| ≤ 100000 := fun b h s d =>
    real_of_range _ ((Cert.CosinesIdeal.Value.pre_apply X T b s h d).symm.trans (congrFun hp (ix4 b s h d)))
  choose a ha hr using ha
  have hc := fun b h s d => cosAt_near (hr b h s d)
  choose y hy hn using hc
  have hk : ∀ b h s d, cosines X T (ix4 b h s d) = (y b h s d : EReal) := fun b h s d => by
    rw [← hy, ← ha]; exact cosArr_apply X T b h s d
  have he : ∀ b h s d, exactCos X T (ix4 b h s d) = ((Real.cos (a b h s d) : ℝ) : EReal) := fun b h s d => by
    rw [exactCos_apply, ha]; rfl
  funext i
  obtain ⟨b, s, j, rfl⟩ : ∃ (b : Fin 4) (s : Fin 2048) (j : Fin 1024), i = ix3 b s j := ⟨i 0, i 1, i 2, eq_ix3 i⟩
  refine (post_eq X T W B O _).trans (either _ _ _ _ ?_)
  have hu : O (ix3 b s j) = (∑ x : Fin 1024, ((softR (y b ⟨x.val / 64, by omega⟩) s ⟨x.val % 64, by omega⟩ : ℝ) : EReal) * W (ix2 j x)) + B (ix1 j) := by
    rw [hO]
    exact congrArg (· + _) (Finset.sum_congr rfl fun x _ => congrArg (· * _) (attnAt_real _ _ (fun r d => hk b _ r d) s _))
  have hv : result (exactCos X T) W B (ix3 b s j)
      = (∑ x : Fin 1024, ((softR (fun r d => Real.cos (a b ⟨x.val / 64, by omega⟩ r d)) s ⟨x.val % 64, by omega⟩ : ℝ) : EReal) * W (ix2 j x)) + B (ix1 j) := by
    unfold result
    rw [projA_apply]
    exact congrArg (· + _) (Finset.sum_congr rfl fun x _ => congrArg (· * _)
      (ref_attn (exactCos X T) (fun b h r d => Real.cos (a b h r d)) he b _ s _))
  rw [hu, hv, spread_apply, bound_apply, lit_part]
  refine proj_near _ _ _ _ _ (by norm_num) fun x => ?_
  exact (soft_near _ _ (fun r d => Real.abs_cos_le_one _) (fun r d => hn b _ r d) s _).trans (by norm_num)

theorem holds_near : Cert.holds_KernelIdeal_near_reference_pre_angles_in_range := fun m ρ hpre =>
  (θ_run defs _ _).mono (fun r h c => ⟨(h c).2.1, (h c).2.2.1, (h c).2.2.2.1, (h c).2.2.2.2, by
    rw [(h c).1]
    exact near _ _ _ _ _ (fun b s j => kernel_at m ρ c b s j) ((range_eq _ _ _ _).symm.trans (hpre c))⟩) (run m ρ)

end Cert.KernelIdeal.Value

end
-- ==== Proof.lean ====
/-
  The proof of `Cert.Claim`: the frames are the generated ones; the reference's is its run; the value claim puts the run of
  the attention and projection (Proof/TailRun.lean), the run of the reference (Proof/RefRun.lean) and the equation between
  their results (Proof/Equation.lean) together; the bound on the cosines' error is Proof/CosClaim.lean's, and the
  bound on the whole kernel's Proof/KernelClaim.lean's.
-/
module

public import proofs.«01_k».proof.Defs
public import proofs.«01_k».proof.Proof.Gen.TailReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.Cosines
public import proofs.«01_k».proof.Proof.Gen.Cosines.Frame
public import proofs.«01_k».proof.Proof.Gen.CosinesIdeal
public import proofs.«01_k».proof.Proof.Gen.CosinesIdeal.Frame
public import proofs.«01_k».proof.Proof.Gen.Pre_angles_moderate
public import proofs.«01_k».proof.Proof.Gen.Post_near_cosines
public import proofs.«01_k».proof.Proof.Gen.Pre_cosines_finite
public import proofs.«01_k».proof.Proof.Gen.Pre_angles_in_range
public import proofs.«01_k».proof.Proof.Gen.Post_near_reference
public import Idealize.ShloMosaic.Adequacy
public import Idealize.ShloMosaic.Init
public import proofs.«01_k».proof.Proof.Equation
public import proofs.«01_k».proof.Proof.RefRun
public import proofs.«01_k».proof.Proof.CosClaim
public import proofs.«01_k».proof.Proof.KernelClaim
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_range : Cert.quiescent_KernelIdeal_pre_angles_in_range := fun m ρ _ => Cert.KernelIdeal.Gen.frame m ρ
theorem frame_tail : Cert.quiescent_Tail := fun m ρ _ => Cert.Tail.Gen.frame m ρ
theorem frame_tailIdeal : Cert.quiescent_TailIdeal := fun m ρ _ => Cert.TailIdeal.Gen.frame m ρ
theorem frame_tailIdeal_finite : Cert.quiescent_TailIdeal_pre_cosines_finite := fun m ρ _ => Cert.TailIdeal.Gen.frame m ρ

/-- The reference ends with its arguments unchanged; it uses no semaphore. -/
theorem frame_reference : Cert.quiescent_TailReferenceIdeal := fun m ρ _ =>
  (θ_run Cert.TailReferenceIdeal.defs _ _).mono (fun r h => ⟨fun c => (h c).2, sem_eq_zero_of_no_sems (by decide) r.2⟩)
    (Cert.TailReferenceIdeal.Value.run_result m ρ)

theorem frame_reference_finite : Cert.quiescent_TailReferenceIdeal_pre_cosines_finite := fun m ρ _ => frame_reference m ρ trivial

theorem frame_cosines : Cert.quiescent_Cosines := fun m ρ _ => Cert.Cosines.Gen.frame m ρ
theorem frame_cosinesIdeal : Cert.quiescent_CosinesIdeal := fun m ρ _ => Cert.CosinesIdeal.Gen.frame m ρ
theorem frame_cosinesIdeal_moderate : Cert.quiescent_CosinesIdeal_pre_angles_moderate := fun m ρ _ => Cert.CosinesIdeal.Gen.frame m ρ

/-- The one named constant, in the whole kernel. -/
theorem preserves_kernel : Cert.preserves_Kernel_KernelIdeal :=
  IdealRules.named_const.statement Cert.KernelIdeal.κ "scale_log2e" .bf16 0x3E39#16 ((8⁻¹ * (Real.log 2)⁻¹ : ℝ) : EReal) rfl

/-- The same in the last two calls. -/
theorem preserves_tail : Cert.preserves_Tail_TailIdeal :=
  IdealRules.named_const.statement Cert.TailIdeal.κ "scale_log2e" .bf16 0x3E39#16 ((8⁻¹ * (Real.log 2)⁻¹ : ℝ) : EReal) rfl

/-- From equal arguments with finite cosines, the two runs end with one result. -/
theorem value : Cert.algebraic_TailIdeal_TailReferenceIdeal_pre_cosines_finite := by
  intro m ρ m' ρ' hpre hagree
  refine ⟨_, Cert.TailIdeal.Value.run m ρ, ?_⟩
  refine (θ_run Cert.TailReferenceIdeal.defs _ _).mono (fun _ h c => ⟨(h c).1.trans ?_, (h c).2⟩)
    (Cert.TailReferenceIdeal.Value.run_result m' ρ')
  rw [(hagree c).1, (hagree c).2.1, (hagree c).2.2]
  exact Cert.TailIdeal.Value.tail_eq_result m ρ c (Cert.TailIdeal.Value.finite_of_pre _ _ _ (hpre c))

theorem preserves_cosines : Cert.preserves_Cosines_CosinesIdeal := trivial

theorem claim : Cert.Claim :=
  ⟨Cert.Kernel.Gen.facts, Cert.KernelIdeal.Gen.facts, Cert.Tail.Gen.facts, Cert.TailIdeal.Gen.facts, Cert.TailReferenceIdeal.Gen.facts,
    Cert.Cosines.Gen.facts, Cert.CosinesIdeal.Gen.facts, Cert.Pre_angles_in_range.Gen.facts, Cert.Pre_cosines_finite.Gen.facts,
    Cert.Pre_angles_moderate.Gen.facts, Cert.Post_near_reference.Gen.facts, Cert.Post_near_cosines.Gen.facts, frame_kernel,
    frame_kernelIdeal, frame_kernelIdeal_range, frame_tail, frame_tailIdeal, frame_tailIdeal_finite, frame_reference,
    frame_reference_finite, frame_cosines, frame_cosinesIdeal, frame_cosinesIdeal_moderate, preserves_kernel,
    Cert.KernelIdeal.Value.holds_near, preserves_tail, value, preserves_cosines, Cert.CosinesIdeal.Value.holds_near⟩

end Cert.Proof

end
